-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128x128 : Shape := ⟨3, ![128, 128, 128]⟩
abbrev S8192x4 : Shape := ⟨2, ![8192, 4]⟩
abbrev S32 : Shape := ⟨1, ![32]⟩
abbrev S16384x128 : Shape := ⟨2, ![16384, 128]⟩
abbrev S32768 : Shape := ⟨1, ![32768]⟩
abbrev S8192x1024 : Shape := ⟨2, ![8192, 1024]⟩
abbrev S1040 : Shape := ⟨1, ![1040]⟩
abbrev S128 : Shape := ⟨1, ![128]⟩
abbrev S128x128 : Shape := ⟨2, ![128, 128]⟩
abbrev S1024 : Shape := ⟨1, ![1024]⟩
abbrev S_ : Shape := ⟨0, ![]⟩
abbrev S16 : Shape := ⟨1, ![16]⟩
abbrev S1 : Shape := ⟨1, ![1]⟩
abbrev S1x16 : Shape := ⟨2, ![1, 16]⟩
abbrev S1x1024 : Shape := ⟨2, ![1, 1024]⟩
abbrev S8192x8x128 : Shape := ⟨3, ![8192, 8, 128]⟩
abbrev S8192x128x8 : Shape := ⟨3, ![8192, 128, 8]⟩

abbrev nBuf : Table → Nat
  | .hbm => 10
  | .local .scVector .vmem => 5
  | _ => 0

abbrev bufTy : (tb : Table) → Fin (nBuf tb) → BufTy
  | .hbm, ⟨0, _⟩ => ⟨S128x128x128, .f32⟩
  | .hbm, ⟨1, _⟩ => ⟨S8192x4, .f32⟩
  | .hbm, ⟨2, _⟩ => ⟨S32, .f32⟩
  | .hbm, ⟨3, _⟩ => ⟨S128x128x128, .f32⟩
  | .hbm, ⟨4, _⟩ => ⟨S16384x128, .f32⟩
  | .hbm, ⟨5, _⟩ => ⟨S32768, .f32⟩
  | .hbm, ⟨6, _⟩ => ⟨S8192x1024, .f32⟩
  | .hbm, ⟨7, _⟩ => ⟨S8192x8x128, .f32⟩
  | .hbm, ⟨8, _⟩ => ⟨S8192x128x8, .f32⟩
  | .hbm, ⟨9, _⟩ => ⟨S8192x1024, .f32⟩
  | .local .scVector .vmem, ⟨0, _⟩ => ⟨S1040, .f32⟩
  | .local .scVector .vmem, ⟨1, _⟩ => ⟨S32, .f32⟩
  | .local .scVector .vmem, ⟨2, _⟩ => ⟨S128, .i32⟩
  | .local .scVector .vmem, ⟨3, _⟩ => ⟨S128x128, .f32⟩
  | .local .scVector .vmem, ⟨4, _⟩ => ⟨S1024, .f32⟩
  | _, _ => ⟨S128x128x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v1_scv : Ref sig .scVector := ⟨.hbm, 4, rfl⟩
abbrev main_v2_scv : Ref sig .scVector := ⟨.hbm, 5, rfl⟩
abbrev main_cst_scv : Ref sig .scVector := ⟨.hbm, 2, rfl⟩
abbrev main_v3_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c256_i32 : BitVec 32 := 256#32
  let v2 : BitVec 32 := Scalar.muli v1 c256_i32
  let c4_i32 : BitVec 32 := 4#32
  let v3 : BitVec 32 := Scalar.muli v2 c4_i32
  ![v3.toNat]
@[reducible] def k0_t1_loop : Scf.Loop 32 :=
  let c0_i32_0 : BitVec 32 := 0#32
  let c256_i32_1 : BitVec 32 := 256#32
  let v4 : BitVec 32 := Scalar.addi c0_i32_0 c256_i32_1
  let c1_i32 : BitVec 32 := 1#32
  ⟨c0_i32_0, v4, c1_i32⟩
def k0_off2 (k0_t1 : Fin k0_t1_loop.trips) : Fin 1 → Nat :=
  let c4_i32_3 : BitVec 32 := 4#32
  let c0_i32_0 : BitVec 32 := 0#32
  let c1_i32 : BitVec 32 := 1#32
  let arg13 : BitVec 32 := Scf.iv c0_i32_0 c1_i32 k0_t1
  let v5 : BitVec 32 := Scalar.muli c4_i32_3 arg13
  let v6 : Index := Scalar.indexCast v5
  ![v6.toNat]
def k0_off3 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c256_i32 : BitVec 32 := 256#32
  let v2 : BitVec 32 := Scalar.muli v1 c256_i32
  let c0_i32_0 : BitVec 32 := 0#32
  let c1_i32 : BitVec 32 := 1#32
  let arg13 : BitVec 32 := Scf.iv c0_i32_0 c1_i32 k0_t1
  let v5787 : BitVec 32 := Scalar.addi v2 arg13
  let c0_i32_1966_r2 : BitVec 32 := 0#32
  ![v5787.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x128x128 : Shape := ⟨3, ![128, 128, 128]⟩
abbrev S8192x4 : Shape := ⟨2, ![8192, 4]⟩
abbrev S32 : Shape := ⟨1, ![32]⟩
abbrev S1x1x32 : Shape := ⟨3, ![1, 1, 32]⟩
abbrev S8192x2 : Shape := ⟨2, ![8192, 2]⟩
abbrev S8192x2x1 : Shape := ⟨3, ![8192, 2, 1]⟩
abbrev S8192x2x32 : Shape := ⟨3, ![8192, 2, 32]⟩
abbrev S_ : Shape := ⟨0, ![]⟩
abbrev S8192x32x2 : Shape := ⟨3, ![8192, 32, 2]⟩
abbrev S262144x2 : Shape := ⟨2, ![262144, 2]⟩
abbrev S262144x1 : Shape := ⟨2, ![262144, 1]⟩
abbrev S262144 : Shape := ⟨1, ![262144]⟩
abbrev S128x262144 : Shape := ⟨2, ![128, 262144]⟩
abbrev S1x262144 : Shape := ⟨2, ![1, 262144]⟩
abbrev S128x8192x32 : Shape := ⟨3, ![128, 8192, 32]⟩
abbrev S8192x128x32 : Shape := ⟨3, ![8192, 128, 32]⟩
abbrev S8192x128x8x4 : Shape := ⟨4, ![8192, 128, 8, 4]⟩
abbrev S8192x128x8 : Shape := ⟨3, ![8192, 128, 8]⟩
abbrev S8192x1024 : Shape := ⟨2, ![8192, 1024]⟩

abbrev nBuf : Space → Nat
  | .hbm => 184
  | .vmem => 0
  | .smem => 0
  | _ => 0

abbrev hbmTy0_0 (i : Nat) : BufTy := match i % 128 with
  | 0 => ⟨S128x128x128, .f32⟩
  | 1 => ⟨S8192x4, .f32⟩
  | 2 => ⟨S32, .f32⟩
  | 3 => ⟨S1x1x32, .f32⟩
  | 4 => ⟨S8192x2, .f32⟩
  | 5 => ⟨S8192x2, .f32⟩
  | 6 => ⟨S8192x2x1, .f32⟩
  | 7 => ⟨S8192x2x32, .f32⟩
  | 8 => ⟨S8192x2x32, .f32⟩
  | 9 => ⟨S8192x2x32, .f32⟩
  | 10 => ⟨S8192x2x1, .f32⟩
  | 11 => ⟨S_, .f32⟩
  | 12 => ⟨S1x1x32, .f32⟩
  | 13 => ⟨S1x1x32, .f32⟩
  | 14 => ⟨S8192x2x32, .f32⟩
  | 15 => ⟨S8192x2x32, .f32⟩
  | 16 => ⟨S8192x2x32, .f32⟩
  | 17 => ⟨S8192x2x32, .f32⟩
  | 18 => ⟨S_, .f32⟩
  | 19 => ⟨S8192x2x32, .f32⟩
  | 20 => ⟨S8192x2x32, .f32⟩
  | 21 => ⟨S8192x32x2, .f32⟩
  | 22 => ⟨S262144x2, .f32⟩
  | 23 => ⟨S262144x1, .f32⟩
  | 24 => ⟨S262144, .f32⟩
  | 25 => ⟨S262144x1, .f32⟩
  | 26 => ⟨S262144, .f32⟩
  | 27 => ⟨S262144, .f32⟩
  | 28 => ⟨S_, .i32⟩
  | 29 => ⟨S_, .i32⟩
  | 30 => ⟨S_, .f32⟩
  | 31 => ⟨S262144, .f32⟩
  | 32 => ⟨S262144, .f32⟩
  | 33 => ⟨S_, .f32⟩
  | 34 => ⟨S262144, .f32⟩
  | 35 => ⟨S262144, .f32⟩
  | 36 => ⟨S262144, .f32⟩
  | 37 => ⟨S_, .i32⟩
  | 38 => ⟨S_, .i32⟩
  | 39 => ⟨S_, .f32⟩
  | 40 => ⟨S262144, .f32⟩
  | 41 => ⟨S262144, .f32⟩
  | 42 => ⟨S_, .f32⟩
  | 43 => ⟨S262144, .f32⟩
  | 44 => ⟨S262144, .f32⟩
  | 45 => ⟨S_, .f32⟩
  | 46 => ⟨S262144, .f32⟩
  | 47 => ⟨S262144, .f32⟩
  | 48 => ⟨S_, .i32⟩
  | 49 => ⟨S_, .i32⟩
  | 50 => ⟨S_, .f32⟩
  | 51 => ⟨S262144, .f32⟩
  | 52 => ⟨S262144, .f32⟩
  | 53 => ⟨S_, .f32⟩
  | 54 => ⟨S262144, .f32⟩
  | 55 => ⟨S262144, .f32⟩
  | 56 => ⟨S_, .f32⟩
  | 57 => ⟨S262144, .f32⟩
  | 58 => ⟨S262144, .f32⟩
  | 59 => ⟨S_, .i32⟩
  | 60 => ⟨S_, .i32⟩
  | 61 => ⟨S_, .f32⟩
  | 62 => ⟨S262144, .f32⟩
  | 63 => ⟨S262144, .f32⟩
  | 64 => ⟨S_, .f32⟩
  | 65 => ⟨S262144, .f32⟩
  | 66 => ⟨S262144, .f32⟩
  | 67 => ⟨S262144, .i32⟩
  | 68 => ⟨S262144, .i32⟩
  | 69 => ⟨S262144, .i32⟩
  | 70 => ⟨S262144, .i32⟩
  | 71 => ⟨S_, .i32⟩
  | 72 => ⟨S262144, .i32⟩
  | 73 => ⟨S262144, .i1⟩
  | 74 => ⟨S_, .i32⟩
  | 75 => ⟨S262144, .i32⟩
  | 76 => ⟨S262144, .i32⟩
  | 77 => ⟨S262144, .i32⟩
  | 78 => ⟨S_, .i32⟩
  | 79 => ⟨S262144, .i32⟩
  | 80 => ⟨S262144, .i1⟩
  | 81 => ⟨S_, .i32⟩
  | 82 => ⟨S262144, .i32⟩
  | 83 => ⟨S262144, .i32⟩
  | 84 => ⟨S262144, .i32⟩
  | 85 => ⟨S262144x1, .i32⟩
  | 86 => ⟨S262144x1, .i32⟩
  | 87 => ⟨S262144x2, .i32⟩
  | 88 => ⟨S128x262144, .f32⟩
  | 89 => ⟨S262144, .f32⟩
  | 90 => ⟨S1x262144, .f32⟩
  | 91 => ⟨S128x262144, .f32⟩
  | 92 => ⟨S128x262144, .f32⟩
  | 93 => ⟨S262144, .f32⟩
  | 94 => ⟨S1x262144, .f32⟩
  | 95 => ⟨S128x262144, .f32⟩
  | 96 => ⟨S128x262144, .f32⟩
  | 97 => ⟨S_, .i32⟩
  | 98 => ⟨S262144, .i32⟩
  | 99 => ⟨S262144, .i1⟩
  | 100 => ⟨S_, .i32⟩
  | 101 => ⟨S262144, .i32⟩
  | 102 => ⟨S262144, .i32⟩
  | 103 => ⟨S262144, .i32⟩
  | 104 => ⟨S_, .i32⟩
  | 105 => ⟨S262144, .i32⟩
  | 106 => ⟨S262144, .i1⟩
  | 107 => ⟨S_, .i32⟩
  | 108 => ⟨S262144, .i32⟩
  | 109 => ⟨S262144, .i32⟩
  | 110 => ⟨S262144, .i32⟩
  | 111 => ⟨S262144x1, .i32⟩
  | 112 => ⟨S262144x1, .i32⟩
  | 113 => ⟨S262144x2, .i32⟩
  | 114 => ⟨S128x262144, .f32⟩
  | 115 => ⟨S262144, .f32⟩
  | 116 => ⟨S1x262144, .f32⟩
  | 117 => ⟨S128x262144, .f32⟩
  | 118 => ⟨S128x262144, .f32⟩
  | 119 => ⟨S262144, .f32⟩
  | 120 => ⟨S1x262144, .f32⟩
  | 121 => ⟨S128x262144, .f32⟩
  | 122 => ⟨S128x262144, .f32⟩
  | 123 => ⟨S128x262144, .f32⟩
  | 124 => ⟨S_, .i32⟩
  | 125 => ⟨S262144, .i32⟩
  | 126 => ⟨S262144, .i1⟩
  | 127 => ⟨S_, .i32⟩
  | _ => ⟨S128x128x128, .f32⟩

abbrev hbmTy0_1 (i : Nat) : BufTy := match i % 128 with
  | 0 => ⟨S262144, .i32⟩
  | 1 => ⟨S262144, .i32⟩
  | 2 => ⟨S262144, .i32⟩
  | 3 => ⟨S_, .i32⟩
  | 4 => ⟨S262144, .i32⟩
  | 5 => ⟨S262144, .i1⟩
  | 6 => ⟨S_, .i32⟩
  | 7 => ⟨S262144, .i32⟩
  | 8 => ⟨S262144, .i32⟩
  | 9 => ⟨S262144, .i32⟩
  | 10 => ⟨S262144x1, .i32⟩
  | 11 => ⟨S262144x1, .i32⟩
  | 12 => ⟨S262144x2, .i32⟩
  | 13 => ⟨S128x262144, .f32⟩
  | 14 => ⟨S262144, .f32⟩
  | 15 => ⟨S1x262144, .f32⟩
  | 16 => ⟨S128x262144, .f32⟩
  | 17 => ⟨S128x262144, .f32⟩
  | 18 => ⟨S262144, .f32⟩
  | 19 => ⟨S1x262144, .f32⟩
  | 20 => ⟨S128x262144, .f32⟩
  | 21 => ⟨S128x262144, .f32⟩
  | 22 => ⟨S128x262144, .f32⟩
  | 23 => ⟨S_, .i32⟩
  | 24 => ⟨S262144, .i32⟩
  | 25 => ⟨S262144, .i1⟩
  | 26 => ⟨S_, .i32⟩
  | 27 => ⟨S262144, .i32⟩
  | 28 => ⟨S262144, .i32⟩
  | 29 => ⟨S262144, .i32⟩
  | 30 => ⟨S_, .i32⟩
  | 31 => ⟨S262144, .i32⟩
  | 32 => ⟨S262144, .i1⟩
  | 33 => ⟨S_, .i32⟩
  | 34 => ⟨S262144, .i32⟩
  | 35 => ⟨S262144, .i32⟩
  | 36 => ⟨S262144, .i32⟩
  | 37 => ⟨S262144x1, .i32⟩
  | 38 => ⟨S262144x1, .i32⟩
  | 39 => ⟨S262144x2, .i32⟩
  | 40 => ⟨S128x262144, .f32⟩
  | 41 => ⟨S262144, .f32⟩
  | 42 => ⟨S1x262144, .f32⟩
  | 43 => ⟨S128x262144, .f32⟩
  | 44 => ⟨S128x262144, .f32⟩
  | 45 => ⟨S262144, .f32⟩
  | 46 => ⟨S1x262144, .f32⟩
  | 47 => ⟨S128x262144, .f32⟩
  | 48 => ⟨S128x262144, .f32⟩
  | 49 => ⟨S128x262144, .f32⟩
  | 50 => ⟨S128x8192x32, .f32⟩
  | 51 => ⟨S8192x128x32, .f32⟩
  | 52 => ⟨S8192x128x8x4, .f32⟩
  | 53 => ⟨S_, .f32⟩
  | 54 => ⟨S8192x128x8, .f32⟩
  | 55 => ⟨S8192x1024, .f32⟩
  | _ => ⟨S128x128x128, .f32⟩

abbrev hbmTy (i : Nat) : BufTy := match i / 128 with
  | 0 => hbmTy0_0 i
  | 1 => hbmTy0_1 i
  | _ => ⟨S128x128x128, .f32⟩

abbrev bufTy : (tb : Table) → Fin (tcTables nBuf tb) → BufTy
  | .hbm, ⟨i, _⟩ => hbmTy i
  | _, _ => ⟨S128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c : Ref sig .tc := ⟨.hbm, 28, rfl⟩
abbrev main_c_2 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v23 : Ref sig .tc := ⟨.hbm, 35, rfl⟩
abbrev main_v24 : Ref sig .tc := ⟨.hbm, 36, rfl⟩
abbrev main_c_3 : Ref sig .tc := ⟨.hbm, 37, rfl⟩
abbrev main_c_4 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_c_7 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v28 : Ref sig .tc := ⟨.hbm, 55, rfl⟩
abbrev main_cst_8 : Ref sig .tc := ⟨.hbm, 56, rfl⟩
abbrev main_v29 : Ref sig .tc := ⟨.hbm, 57, rfl⟩
abbrev main_v30 : Ref sig .tc := ⟨.hbm, 58, rfl⟩
abbrev main_c_9 : Ref sig .tc := ⟨.hbm, 59, rfl⟩
abbrev main_c_10 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_c_11 : Ref sig .tc := ⟨.hbm, 71, rfl⟩
abbrev main_v36 : Ref sig .tc := ⟨.hbm, 72, rfl⟩
abbrev main_v37 : Ref sig .tc := ⟨.hbm, 73, rfl⟩
abbrev main_c_12 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_c_13 : Ref sig .tc := ⟨.hbm, 78, rfl⟩
abbrev main_v41 : Ref sig .tc := ⟨.hbm, 79, rfl⟩
abbrev main_v42 : Ref sig .tc := ⟨.hbm, 80, rfl⟩
abbrev main_c_14 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_c_15 : Ref sig .tc := ⟨.hbm, 97, rfl⟩
abbrev main_v58 : Ref sig .tc := ⟨.hbm, 98, rfl⟩
abbrev main_v59 : Ref sig .tc := ⟨.hbm, 99, rfl⟩
abbrev main_c_16 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_c_17 : Ref sig .tc := ⟨.hbm, 104, rfl⟩
abbrev main_v63 : Ref sig .tc := ⟨.hbm, 105, rfl⟩
abbrev main_v64 : Ref sig .tc := ⟨.hbm, 106, rfl⟩
abbrev main_c_18 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_c_19 : Ref sig .tc := ⟨.hbm, 124, rfl⟩
abbrev main_v81 : Ref sig .tc := ⟨.hbm, 125, rfl⟩
abbrev main_v82 : Ref sig .tc := ⟨.hbm, 126, rfl⟩
abbrev main_c_20 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_c_21 : Ref sig .tc := ⟨.hbm, 131, rfl⟩
abbrev main_v86 : Ref sig .tc := ⟨.hbm, 132, rfl⟩
abbrev main_v87 : Ref sig .tc := ⟨.hbm, 133, rfl⟩
abbrev main_c_22 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_c_23 : Ref sig .tc := ⟨.hbm, 151, rfl⟩
abbrev main_v104 : Ref sig .tc := ⟨.hbm, 152, rfl⟩
abbrev main_v105 : Ref sig .tc := ⟨.hbm, 153, rfl⟩
abbrev main_c_24 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_c_25 : Ref sig .tc := ⟨.hbm, 158, rfl⟩
abbrev main_v109 : Ref sig .tc := ⟨.hbm, 159, rfl⟩
abbrev main_v110 : Ref sig .tc := ⟨.hbm, 160, rfl⟩
abbrev main_c_26 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_cst_27 : Ref sig .tc := ⟨.hbm, 181, rfl⟩
abbrev main_v130 : Ref sig .tc := ⟨.hbm, 182, rfl⟩
abbrev main_v131 : Ref sig .tc := ⟨.hbm, 183, rfl⟩

abbrev nD : Nat := 1
abbrev τ : Topo := Topo.v7x

variable {F : FTy → Type} [FloatOps F]
-- ==== Proof.Base.lean ====
/-
  The idealized kernel as the launch theorem sees it: the SparseCore program, the ghost state its handshakes and copies
  use, and the names of the arrays, buffers and counters the tile programs touch.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Sample

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the program. -/
abbrev ΛP : Labels := Pipeline.Sig Λ₀ (Fin 0) fun p => (pcfgs (F := F) p).Adm
/-- The SparseCore call of the program. -/
abbrev K : SparseCore.Cfg τ sig (ΛP (F := F)) 1 := sc (F := F)
/-- The call runs on sixteen tiles of each SparseCore. -/
theorem nSub_zero : (K (F := F)).nSub 0 = 16 := rfl
/-- The call runs on two SparseCores. -/
theorem nCore_zero : (K (F := F)).nCore 0 = 2 := rfl
/-- The bodies the labels name. -/
abbrev D [FloatOps F] : Defs nD τ sig (Elt F) (ΛP (F := F)) := Pipeline.defs pcfgs defs₀
/-- The program has no loop of unknown length, so it needs no measure. -/
abbrev 𝒱₀ : Variants := Variants.none
/-- The same over the call's labels. -/
abbrev 𝒱 : Variants := 𝒱₀.lift
/-- The one measure there is. -/
abbrev v₀ : 𝒱.V := Sum.inl none

/-- What the launch asks of the program's own counters and buffers: the handshakes' counters are not the tiles' copies', and no
    SparseCore buffer is shared among tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the copies' counters -/

/-- The handshakes' part of the ghost state. -/
abbrev UH : Type := URounds (GSem nD τ sig) ℕ
/-- The whole ghost state: the handshakes' part and the copies' counters. -/
abbrev UU : Type := UH × Counters

local notation "𝕄" => MT nD τ sig (HIx 1) (Elt F) ℕ UU ℕ

/-- The handshakes' part within the whole. -/
abbrev EH : Emb UH (MT nD τ sig (HIx 1) (Elt F) ℕ UU ℕ) := embL

end Cert.Proof.Sample

end
-- ==== Proof.Spec.lean ====
/-
  What one line of the output is, element by element: the sampled positions along the line, the four grid points around
  each, their weights, the weighted sum, and the maximum over four consecutive samples. Over any float values.
-/
module

public import proofs.«01_k».proof.Proof.Base
public import Idealize.ShloMosaic.Lib.WordArith

@[expose] public section

noncomputable section

namespace Cert.Proof.Sample

open Cert.KernelIdeal Cert.KernelIdeal.Gen
open Idealize.ShloMosaic

variable {F : FTy → Type} [FloatOps F]

/-- One coordinate of a sampled point: `u * t + v * (1 - t) - 1/2`. -/
def coord (u v t : F .f32) : F .f32 :=
  FloatOps.subf (FloatOps.addf (FloatOps.mulf u t) (FloatOps.mulf v (FloatOps.subf (FloatOps.ofBits .f32 0x3F800000#32) t)))
    (FloatOps.ofBits .f32 0x3F000000#32)

/-- The lower grid coordinate of a position: its integer part, kept within `0` and `127`. -/
def lo (p : F .f32) : BitVec 32 := IntOp.minsi 127#32 (IntOp.maxsi 0#32 (FloatOps.fptosi 32 p))

/-- The upper grid coordinate: the next one, kept at most `127`. -/
def hi (p : F .f32) : BitVec 32 := IntOp.minsi (IntOp.addi (lo p) 1#32) 127#32

/-- The weight of the lower grid coordinate. -/
def wLo (p : F .f32) : F .f32 := FloatOps.subf (FloatOps.sitofp .f32 (hi p)) p

/-- The weight of the upper grid coordinate. -/
def wHi (p : F .f32) : F .f32 := FloatOps.subf p (FloatOps.sitofp .f32 (lo p))

/-- The table row of grid point `(y, x)`. -/
def rowWord (y x : BitVec 32) : BitVec 32 := IntOp.addi (IntOp.muli y 128#32) x

/-- The table rows of the four grid points around `(x, y)`. -/
def corner (k : Fin 4) (x y : F .f32) : BitVec 32 :=
  ![rowWord (lo y) (lo x), rowWord (lo y) (hi x), rowWord (hi y) (lo x), rowWord (hi y) (hi x)] k

/-- Their weights. -/
def weight (k : Fin 4) (x y : F .f32) : F .f32 :=
  ![FloatOps.mulf (wLo y) (wLo x), FloatOps.mulf (wLo y) (wHi x), FloatOps.mulf (wHi y) (wLo x), FloatOps.mulf (wHi y) (wHi x)] k

/-- The lower grid coordinate is at most `127`. -/
theorem lo_le (p : F .f32) : (lo p).toNat ≤ 127 := by
  unfold lo IntOp.minsi
  have h := Idealize.ShloMosaic.WordArith.toInt_maxsi_zero (FloatOps.fptosi 32 p)
  split
  · decide
  · rename_i hs
    rw [BitVec.slt_iff_toInt_lt, show (127#32 : BitVec 32).toInt = 127 from by decide] at hs
    have e := BitVec.toInt_eq_toNat_cond (IntOp.maxsi 0#32 (FloatOps.fptosi (F := F) 32 p))
    have l := (IntOp.maxsi 0#32 (FloatOps.fptosi (F := F) 32 p)).isLt
    split at e <;> omega

/-- The upper one is one more, but at most `127`. -/
theorem toNat_hi (p : F .f32) : (hi p).toNat = min ((lo p).toNat + 1) 127 := by
  have h := lo_le p
  have e : (IntOp.addi (lo p) 1#32).toNat = (lo p).toNat + 1 := by
    unfold IntOp.addi
    rw [BitVec.toNat_add, show (1#32 : BitVec 32).toNat = 1 from rfl]
    omega
  unfold hi
  rw [Idealize.ShloMosaic.WordArith.toNat_minsi_of_lt _ _ (by omega) (by decide), e]
  rfl

/-- The upper one is at most `127`. -/
theorem hi_le (p : F .f32) : (hi p).toNat ≤ 127 := by
  rw [toNat_hi]; omega

/-- The row number does not overflow. -/
theorem toNat_rowWord (y x : BitVec 32) (hy : y.toNat ≤ 127) (hx : x.toNat ≤ 127) :
    (rowWord y x).toNat = y.toNat * 128 + x.toNat := by
  unfold rowWord IntOp.addi IntOp.muli
  rw [BitVec.toNat_add, BitVec.toNat_mul, show (128#32 : BitVec 32).toNat = 128 from rfl]
  omega

/-- Every grid point is a row of the table. -/
theorem corner_lt (k : Fin 4) (x y : F .f32) : (corner k x y).toNat < 16384 := by
  have h1 := lo_le x
  have h2 := lo_le y
  have h3 := hi_le x
  have h4 := hi_le y
  match k with
  | 0 => show (rowWord (lo y) (lo x)).toNat < _; rw [toNat_rowWord _ _ h2 h1]; omega
  | 1 => show (rowWord (lo y) (hi x)).toNat < _; rw [toNat_rowWord _ _ h2 h3]; omega
  | 2 => show (rowWord (hi y) (lo x)).toNat < _; rw [toNat_rowWord _ _ h4 h1]; omega
  | 3 => show (rowWord (hi y) (hi x)).toNat < _; rw [toNat_rowWord _ _ h4 h3]; omega

variable (ln : Fin 4 → F .f32) (t : Fin 32 → F .f32) (tab : Fin 16384 → Fin 128 → F .f32)

/-- The horizontal coordinate of sample `s` of a line given by its four numbers. -/
def sampX (s : Fin 32) : F .f32 := coord (ln 0) (ln 2) (t s)

/-- The vertical one. -/
def sampY (s : Fin 32) : F .f32 := coord (ln 1) (ln 3) (t s)

/-- Feature `c` of grid point `k` around sample `s`, times the point's weight. -/
def term (k : Fin 4) (s : Fin 32) (c : Fin 128) : F .f32 :=
  FloatOps.mulf (tab ⟨(corner k (sampX ln t s) (sampY ln t s)).toNat, corner_lt k _ _⟩ c) (weight k (sampX ln t s) (sampY ln t s))

/-- Feature `c` interpolated at sample `s`. -/
def tap (s : Fin 32) (c : Fin 128) : F .f32 :=
  FloatOps.addf (FloatOps.addf (FloatOps.addf (term ln t tab 0 s c) (term ln t tab 1 s c)) (term ln t tab 2 s c)) (term ln t tab 3 s c)

/-- Feature `c` of group `f`: the largest over the four samples of the group. -/
def pooled (f : Fin 8) (c : Fin 128) : F .f32 :=
  FloatOps.maximumf (FloatOps.maximumf (FloatOps.maximumf (tap ln t tab ⟨4 * f.val, by omega⟩ c) (tap ln t tab ⟨4 * f.val + 1, by omega⟩ c))
    (tap ln t tab ⟨4 * f.val + 2, by omega⟩ c)) (tap ln t tab ⟨4 * f.val + 3, by omega⟩ c)

/-- A whole line of the output: group `f`, feature `c` at place `128 f + c`. -/
def lineOut (y : Fin 1024) : F .f32 := pooled ln t tab ⟨y.val / 128, by omega⟩ ⟨y.val % 128, by omega⟩

end Cert.Proof.Sample

end
-- ==== Proof.Lane.lean ====
/-
  The tile's vectors read lane by lane: what the rows gathered for a line and the line's weights add up to in the output
  buffer, and what the list of gathered rows holds.
-/
module

public import proofs.«01_k».proof.Proof.Spec
public import Idealize.ShloMosaic.Lib.ValueIdxCore
public import Idealize.ShloMosaic.Lib.Writes
public import Idealize.ShloMosaic.Lib.Pipeline.Value
public import Idealize.ShloMosaic.Lib.SparseCore.Stream

@[expose] public section

noncomputable section

namespace Cert.Proof.Sample

open Cert.KernelIdeal Cert.KernelIdeal.Gen
open Idealize.ShloMosaic
open Idealize.ShloMosaic.ValueIdx (ix1 ix2 eq_ix1 eq_ix2)

variable {F : FTy → Type} [FloatOps F]

local notation "rowV" => (Memref.whole Cert.KernelIdeal.cc0_scratch3 : Memref Cert.KernelIdeal.sig Kind.scVector Space.vmem Cert.KernelIdeal.S128x128 EltTy.f32)

/-! ## Places -/

/-- Sixteen features from `16 g` on lie within a gathered row. -/
theorem inb_rows (r g : Nat) (hr : r < 128) (hg : g < 8) : ∀ a, (![r, 16 * g] : Fin 2 → Nat) a + S1x16.size a ≤ S128x128.size a
  | 0 => show r + 1 ≤ 128 by omega
  | 1 => show 16 * g + 16 ≤ 128 by omega

/-- Sixteen places from `16 n` on lie within the output buffer. -/
theorem inb_out (n : Nat) (hn : n < 64) : ∀ a, (![16 * n] : Fin 1 → Nat) a + S16.size a ≤ S1024.size a
  | 0 => show 16 * n + 16 ≤ 1024 by omega

/-- Sixteen places from `16 n` on lie within the list of rows. -/
theorem inb_list (n : Nat) (hn : n < 8) : ∀ a, (![16 * n] : Fin 1 → Nat) a + S16.size a ≤ S128.size a
  | 0 => show 16 * n + 16 ≤ 128 by omega

/-- One lane lies within sixteen. -/
theorem slices_lane (e : Nat) (he : e < 16) : S16.Slices ![e] S1 :=
  ⟨rfl, fun | 0 => show e + 1 ≤ 16 by omega⟩

/-- A piece of sixteen at `16 n` holds the place `y` exactly when `y` is one of those sixteen. -/
theorem mem_piece {N : Nat} (n : Nat) (inb : ∀ a, (![16 * n] : Fin 1 → Nat) a + S16.size a ≤ (⟨1, ![N]⟩ : Shape).size a)
    (y : (⟨1, ![N]⟩ : Shape).Idx) (h : (y 0).val / 16 = n) :
    y ∈ (Rect.unit (s := ⟨1, ![N]⟩) ![16 * n] S16.size inb).set :=
  Rect.mem_set_unit.mpr fun
    | 0 => by show 16 * n ≤ (y 0).val ∧ (y 0).val < 16 * n + 16; omega

/-! ## One lane as a vector, sixteen features of a row as a vector -/

/-- Lane `e` of a vector, in every lane. -/
def lane (w : FVec F S16 .f32) (e : Nat) (he : e < 16) : FVec F S16 .f32 :=
  broadcast S16 (extractAt ![0] (extractStridedSlice S1 ![e] w (slices_lane e he)) inpos_S1_p0)

/-- Taking one lane out of sixteen and reading it reads that lane. -/
theorem extract_lane {α : Type} (w : S16.Idx → α) (e : Nat) (he : e < 16) (h : S16.Slices ![e] S1) :
    extractAt ![0] (extractStridedSlice S1 ![e] w h) inpos_S1_p0 = w (ix1 ⟨e, he⟩) :=
  congrArg w (funext fun | 0 => rfl)

/-- A lane spread over sixteen holds that lane everywhere. -/
theorem lane_apply (w : FVec F S16 .f32) (e : Nat) (he : e < 16) (j : S16.Idx) : lane w e he j = w (ix1 ⟨e, he⟩) :=
  extract_lane w e he (slices_lane e he)

variable (P : S128x128.Idx → Elt F .f32) (W : Nat → Fin 4 → FVec F S16 .f32)

/-- Features `16 g … 16 g + 15` of gathered row `r`. -/
def chunk (r g : Nat) (hr : r < 128) (hg : g < 8) : FVec F S16 .f32 :=
  shapeCast S16 ((rowV).view.readCov (Val := Elt F) [⟨Rect.whole S128x128, P⟩]
    (Rect.unit (s := S128x128) ![r, 16 * g] S1x16.size (inb_rows r g hr hg)).toLoadRect) shapeCasts_S1x16_S16

/-- Lane `j` of a piece of a gathered row is feature `16 g + j` of it. -/
theorem chunk_apply (r g : Nat) (hr : r < 128) (hg : g < 8) (j : S16.Idx) :
    chunk P r g hr hg j = P (ix2 ⟨r, hr⟩ ⟨16 * g + (j 0).val, by have : (j 0).val < 16 := (j 0).isLt; omega⟩) := by
  unfold chunk
  rw [shapeCast_apply _ _ j (ix2 (n0 := 1) (n1 := 16) 0 (j 0)) (by
    rw [Shape.rowMajor_val_two, Shape.rowMajor_val_one]; show 0 * 16 + (j 0).val = (j 0).val; omega)]
  unfold View.readCov
  rw [View.readAt_apply, View.read_writes_apply_of_pieces (rowV).view _ P _
    (fun p hp x => by obtain rfl := List.mem_singleton.mp hp; exact congrArg P (Rect.emb_whole_apply _ x).symm) _
    ⟨_, List.mem_singleton_self _, (Rect.set_whole S128x128).symm ▸ Finset.mem_univ _⟩]
  refine congrArg P (funext fun a => Fin.ext ?_)
  match a with
  | 0 => show r + 1 * 0 = r; omega
  | 1 => show 16 * g + 1 * (j 0).val = 16 * g + (j 0).val; omega

/-! ## The weighted sums and their maxima, as the vectors the tile stores -/

/-- Sixteen features at sample `s`: the four gathered rows of the sample, each times its weight. -/
def tapVec (s g : Nat) (hs : s < 32) (hg : g < 8) : FVec F S16 .f32 :=
  addf (addf (addf (mulf (chunk P s g (by omega) hg) (lane (W (s / 16) 0) (s % 16) (by omega)))
      (mulf (chunk P (32 + s) g (by omega) hg) (lane (W (s / 16) 1) (s % 16) (by omega))))
      (mulf (chunk P (64 + s) g (by omega) hg) (lane (W (s / 16) 2) (s % 16) (by omega))))
      (mulf (chunk P (96 + s) g (by omega) hg) (lane (W (s / 16) 3) (s % 16) (by omega)))

/-- Sixteen features of group `f`: the largest over the group's four samples. -/
def cellVec (f g : Nat) (hf : f < 8) (hg : g < 8) : FVec F S16 .f32 :=
  maximumf (maximumf (maximumf (tapVec P W (4 * f) g (by omega) hg) (tapVec P W (4 * f + 1) g (by omega) hg))
    (tapVec P W (4 * f + 2) g (by omega) hg)) (tapVec P W (4 * f + 3) g (by omega) hg)

/-- The first `n` of the sixty-four stores of a line's values into the output buffer, the last one first. -/
def cells : (n : Nat) → n ≤ 64 → List (View.Piece (Elt F) S1024 .f32)
  | 0, _ => []
  | n + 1, h => ⟨Rect.unit (s := S1024) ![16 * n] S16.size (inb_out n (by omega)),
      shapeCast S16 (cellVec P W (n / 8) (n % 8) (by omega) (by omega)) shapeCasts_S16_S16⟩ :: cells n (by omega)

/-- The first `n` stores reach every place below `16 n`. -/
theorem cells_cover (y : S1024.Idx) : ∀ (n : Nat) (h : n ≤ 64), (y 0).val < 16 * n → ∃ p ∈ cells P W n h, y ∈ p.1.set
  | 0, _, hy => absurd hy (by omega)
  | n + 1, h, hy => by
    by_cases e : (y 0).val / 16 = n
    · exact ⟨_, List.mem_cons_self, mem_piece n (inb_out n (by omega)) y e⟩
    · obtain ⟨p, hp, hm⟩ := cells_cover y n (by omega) (by omega)
      exact ⟨p, List.mem_cons_of_mem _ hp, hm⟩

variable (ln : Fin 4 → F .f32) (t : Fin 32 → F .f32) (tab : Fin 16384 → Fin 128 → F .f32)

/-- What the tile holds for a line: gathered row `32 k + s`, times weight `k` of sample `s`, is the term of grid point `k`
    at that sample. -/
def Holds : Prop :=
  ∀ (k : Fin 4) (s : Fin 32) (c : Fin 128),
    FloatOps.mulf (P (ix2 ⟨32 * k.val + s.val, by omega⟩ c)) (W (s.val / 16) k (ix1 ⟨s.val % 16, by omega⟩)) = term ln t tab k s c

variable {P W ln t tab}

/-- The weighted sum at a sample is the interpolated feature. -/
theorem Holds.tap (h : Holds P W ln t tab) (s g : Nat) (hs : s < 32) (hg : g < 8) (j : S16.Idx) :
    tapVec P W s g hs hg j = tap ln t tab ⟨s, hs⟩ ⟨16 * g + (j 0).val, by have : (j 0).val < 16 := (j 0).isLt; omega⟩ := by
  have key (k : Fin 4) (r : Nat) (hr : r < 128) (e : r = 32 * k.val + s) :
      mulf (chunk P r g hr hg) (lane (W (s / 16) k) (s % 16) (by omega)) j
        = term ln t tab k ⟨s, hs⟩ ⟨16 * g + (j 0).val, by have : (j 0).val < 16 := (j 0).isLt; omega⟩ := by
    subst e
    rw [← h k ⟨s, hs⟩]
    show FloatOps.mulf (chunk P _ g hr hg j) (lane _ _ _ j) = _
    rw [chunk_apply, lane_apply]
  unfold Sample.tap
  rw [← key 0 s (by omega) (by show s = 32 * 0 + s; omega), ← key 1 (32 + s) (by omega) (by show 32 + s = 32 * 1 + s; omega),
    ← key 2 (64 + s) (by omega) (by show 64 + s = 32 * 2 + s; omega), ← key 3 (96 + s) (by omega) (by show 96 + s = 32 * 3 + s; omega)]
  rfl

/-- The maximum over four samples is the pooled feature. -/
theorem Holds.cell (h : Holds P W ln t tab) (f g : Nat) (hf : f < 8) (hg : g < 8) (j : S16.Idx) :
    cellVec P W f g hf hg j = pooled ln t tab ⟨f, hf⟩ ⟨16 * g + (j 0).val, by have : (j 0).val < 16 := (j 0).isLt; omega⟩ := by
  unfold pooled
  rw [← h.tap (4 * f) g (by omega) hg j, ← h.tap (4 * f + 1) g (by omega) hg j, ← h.tap (4 * f + 2) g (by omega) hg j,
    ← h.tap (4 * f + 3) g (by omega) hg j]
  rfl

/-- Every store writes the line's values at its places. -/
theorem Holds.pieces (h : Holds P W ln t tab) : ∀ (n : Nat) (hn : n ≤ 64), ∀ p ∈ cells P W n hn, ∀ x : p.1.shape.Idx,
    p.2 x = lineOut ln t tab (p.1.emb x 0)
  | 0, _, _, hp, _ => absurd hp List.not_mem_nil
  | n + 1, hn, p, hp, x => by
    rcases List.mem_cons.mp hp with rfl | hp
    · have hx : (x 0).val < 16 := (x 0).isLt
      show shapeCast S16 (cellVec P W (n / 8) (n % 8) (by omega) (by omega)) _ x = _
      rw [shapeCast_self, h.cell]
      unfold lineOut
      have e : ((Rect.unit (s := S1024) ![16 * n] S16.size (inb_out n (by omega))).emb x 0).val = 16 * n + (x 0).val := by
        show 16 * n + 1 * (x 0).val = _; omega
      exact congrArg₂ (pooled ln t tab) (Fin.ext (by show n / 8 = _ / 128; rw [e]; omega))
        (Fin.ext (by show 16 * (n % 8) + (x 0).val = _ % 128; rw [e]; omega))
    · exact h.pieces n (by omega) p hp x

/-- The sixty-four stores leave the line's values in the output buffer. -/
theorem Holds.read (h : Holds P W ln t tab) {sig : RefSig} {κ : Kind} {sp : Space} (v : View sig κ sp S1024 .f32)
    (f : v.ty.Contents (Elt F)) (y : S1024.Idx) : v.read (Elt F) (v.writes (Elt F) f (cells P W 64 le_rfl)) y = lineOut ln t tab (y 0) :=
  View.read_writes_apply_of_pieces v f (fun y => lineOut ln t tab (y 0)) _ (h.pieces 64 le_rfl) y
    (cells_cover P W y 64 le_rfl (y 0).isLt)

/-! ## The list of rows -/

variable (Q : Nat → Fin 4 → IVec S16 32)

/-- One store of sixteen row numbers: grid point `k` of the samples of half `h`. -/
def idxCell (h : Nat) (k : Fin 4) (hh : h < 2) : View.Piece (Elt F) S128 .i32 :=
  ⟨Rect.unit (s := S128) ![16 * (2 * k.val + h)] S16.size (inb_list _ (by omega)), Q h k⟩

/-- The eight stores of row numbers, the last one first. -/
def idxCells : List (View.Piece (Elt F) S128 .i32) :=
  [idxCell Q 1 3 (by omega), idxCell Q 1 2 (by omega), idxCell Q 1 1 (by omega), idxCell Q 1 0 (by omega),
    idxCell Q 0 3 (by omega), idxCell Q 0 2 (by omega), idxCell Q 0 1 (by omega), idxCell Q 0 0 (by omega)]

/-- Each of the eight stores of row numbers is in their list. -/
theorem mem_idxCells (h : Nat) (k : Fin 4) (hh : h < 2) : idxCell (F := F) Q h k hh ∈ idxCells Q := by
  unfold idxCells
  match h, hh with
  | 0, _ => match k with | 0 | 1 | 2 | 3 => simp
  | 1, _ => match k with | 0 | 1 | 2 | 3 => simp

/-- And the list holds no other. -/
theorem of_mem_idxCells {p : View.Piece (Elt F) S128 .i32} (hp : p ∈ idxCells (F := F) Q) : ∃ (h : Nat) (k : Fin 4) (hh : h < 2), p = idxCell Q h k hh := by
  unfold idxCells at hp
  simp only [List.mem_cons, List.not_mem_nil, or_false] at hp
  rcases hp with e | e | e | e | e | e | e | e <;> exact ⟨_, _, _, e⟩

variable (ln t) in
/-- Entry `y` of the list: entries `32 k … 32 k + 31` are grid point `k` of the thirty-two samples. -/
def listAt (y : Fin 128) : BitVec 32 :=
  corner ⟨y.val / 32, by omega⟩ (sampX ln t ⟨y.val % 32, by omega⟩) (sampY ln t ⟨y.val % 32, by omega⟩)

/-- The stored vectors are the rows of the samples. -/
def Lists (Q : Nat → Fin 4 → IVec S16 32) (ln : Fin 4 → F .f32) (t : Fin 32 → F .f32) : Prop :=
  ∀ (h : Nat) (k : Fin 4) (hh : h < 2) (j : S16.Idx),
    Q h k j = corner k (sampX ln t ⟨16 * h + (j 0).val, by have : (j 0).val < 16 := (j 0).isLt; omega⟩)
      (sampY ln t ⟨16 * h + (j 0).val, by have : (j 0).val < 16 := (j 0).isLt; omega⟩)

/-- The eight stores leave the list of rows. -/
theorem Lists.read {Q : Nat → Fin 4 → IVec S16 32} (hQ : Lists Q ln t) {sig : RefSig} {κ : Kind} {sp : Space} (v : View sig κ sp S128 .i32)
    (f : v.ty.Contents (Elt F)) (y : S128.Idx) : v.read (Elt F) (v.writes (Elt F) f (idxCells Q)) y = listAt ln t (y 0) := by
  refine View.read_writes_apply_of_pieces v f (fun y => listAt ln t (y 0)) _ (fun p hp x => ?_) y ?_
  · obtain ⟨h, k, hh, rfl⟩ := of_mem_idxCells Q hp
    have hx : (x 0).val < 16 := (x 0).isLt
    show Q h k x = _
    rw [hQ h k hh x]
    have e : ((Rect.unit (s := S128) ![16 * (2 * k.val + h)] S16.size (inb_list _ (by omega))).emb x 0).val = 32 * k.val + 16 * h + (x 0).val := by
      show 16 * (2 * k.val + h) + 1 * (x 0).val = _; omega
    have e1 : (32 * k.val + 16 * h + (x 0).val) / 32 = k.val := by omega
    have e2 : (32 * k.val + 16 * h + (x 0).val) % 32 = 16 * h + (x 0).val := by omega
    show _ = corner ⟨(Fin.val _) / 32, _⟩ _ _
    unfold idxCell
    simp only [e, e1, e2]
  · have hy : (y 0).val < 128 := (y 0).isLt
    refine ⟨idxCell Q ((y 0).val / 16 % 2) ⟨(y 0).val / 32, by omega⟩ (by omega), mem_idxCells Q _ _ _, ?_⟩
    exact mem_piece _ (inb_list _ (by omega)) y (by show _ = 2 * ((y 0).val / 32) + (y 0).val / 16 % 2; omega)

/-- Every number in the list is a row of the table. -/
theorem listAt_lt (y : Fin 128) : (listAt ln t y).toNat < 16384 := corner_lt _ _ _

end Cert.Proof.Sample

end
-- ==== Proof.Vectors.lean ====
/-
  The vectors the tile computes for a line from the four loaded numbers and the thirty-two sample positions: the rows to
  gather and the weights, each the function of the sample that `Spec` names.
-/
module

public import proofs.«01_k».proof.Proof.Lane

@[expose] public section

noncomputable section

namespace Cert.Proof.Sample

open Cert.KernelIdeal Cert.KernelIdeal.Gen
open Idealize.ShloMosaic
open Idealize.ShloMosaic.ValueIdx (ix1)

variable {F : FTy → Type} [FloatOps F]
variable (v : Vec F S16 .f32) (t0 t1 : Vec F S16 .f32)

/-- The row numbers the tile stores, half `h` of the samples, grid point `k`. -/
def listVec (h : Nat) (k : Fin 4) : IVec S16 32 :=
  match h with
  | 0 => ![k0_pay25 (k0_pay10 v t0) (k0_pay11 v t0), k0_pay26 (k0_pay11 v t0) (k0_pay12 v t0),
      k0_pay27 (k0_pay10 v t0) (k0_pay13 v t0) 127#32, k0_pay28 (k0_pay12 v t0) (k0_pay13 v t0) 127#32] k
  | _ => ![k0_pay48 (k0_pay5 v) (k0_pay30 t1) (k0_pay31 (k0_pay2 v) (k0_pay4 v) t1) (k0_pay32 (k0_pay3 v) t1),
      k0_pay50 (k0_pay49 (k0_pay5 v) (k0_pay30 t1) (k0_pay31 (k0_pay2 v) (k0_pay4 v) t1) (k0_pay32 (k0_pay3 v) t1)),
      k0_pay51 (k0_pay34 (k0_pay31 (k0_pay2 v) (k0_pay4 v) t1)) (k0_pay47 (k0_pay5 v) (k0_pay30 t1) (k0_pay32 (k0_pay3 v) t1)),
      k0_pay52 (k0_pay36 (k0_pay31 (k0_pay2 v) (k0_pay4 v) t1)) (k0_pay47 (k0_pay5 v) (k0_pay30 t1) (k0_pay32 (k0_pay3 v) t1))] k

/-- The weights the tile keeps, half `h` of the samples, grid point `k`. -/
def weightVec (h : Nat) (k : Fin 4) : FVec F S16 .f32 :=
  match h with
  | 0 => ![k0_pay19 (k0_pay8 v t0) (k0_pay9 v t0) (k0_pay12 v t0) (k0_pay13 v t0) 127#32,
      k0_pay20 (k0_pay8 v t0) (k0_pay9 v t0) (k0_pay10 v t0) (k0_pay13 v t0) 127#32,
      k0_pay21 (k0_pay8 v t0) (k0_pay9 v t0) (k0_pay11 v t0) (k0_pay12 v t0),
      k0_pay22 (k0_pay8 v t0) (k0_pay9 v t0) (k0_pay10 v t0) (k0_pay11 v t0)] k
  | _ => ![k0_pay42 (k0_pay5 v) (k0_pay30 t1) (k0_pay31 (k0_pay2 v) (k0_pay4 v) t1) (k0_pay32 (k0_pay3 v) t1),
      k0_pay43 (k0_pay5 v) (k0_pay30 t1) (k0_pay31 (k0_pay2 v) (k0_pay4 v) t1) (k0_pay32 (k0_pay3 v) t1),
      k0_pay44 (k0_pay5 v) (k0_pay30 t1) (k0_pay31 (k0_pay2 v) (k0_pay4 v) t1) (k0_pay32 (k0_pay3 v) t1),
      k0_pay45 (k0_pay5 v) (k0_pay30 t1) (k0_pay31 (k0_pay2 v) (k0_pay4 v) t1) (k0_pay32 (k0_pay3 v) t1)] k

/-! ## The coordinates -/

/-- The line's first number. -/
theorem num0 : k0_pay2 v = v (ix1 0) := by
  unfold k0_pay2 k0_pay1; rw [shapeCast_self]; exact extract_lane v 0 (by omega) _

/-- The second. -/
theorem num1 : k0_pay3 v = v (ix1 1) := by
  unfold k0_pay3 k0_pay1; rw [shapeCast_self]; exact extract_lane v 1 (by omega) _

/-- The third. -/
theorem num2 : k0_pay4 v = v (ix1 2) := by
  unfold k0_pay4 k0_pay1; rw [shapeCast_self]; exact extract_lane v 2 (by omega) _

/-- The fourth. -/
theorem num3 : k0_pay5 v = v (ix1 3) := by
  unfold k0_pay5 k0_pay1; rw [shapeCast_self]; exact extract_lane v 3 (by omega) _

/-- The horizontal coordinates of the first sixteen samples. -/
theorem sampX0 : k0_pay8 v t0 = fun j => coord (v (ix1 0)) (v (ix1 2)) (t0 j) := by
  unfold k0_pay8 k0_pay7 k0_pay6; rw [num0, num2, shapeCast_self]; rfl

/-- The vertical ones. -/
theorem sampY0 : k0_pay9 v t0 = fun j => coord (v (ix1 1)) (v (ix1 3)) (t0 j) := by
  unfold k0_pay9 k0_pay7 k0_pay6; rw [num1, num3, shapeCast_self]; rfl

/-- The horizontal coordinates of the last sixteen samples. -/
theorem sampX1 : k0_pay31 (k0_pay2 v) (k0_pay4 v) t1 = fun j => coord (v (ix1 0)) (v (ix1 2)) (t1 j) := by
  unfold k0_pay31 k0_pay30 k0_pay29; rw [num0, num2, shapeCast_self]; rfl

/-- The vertical ones. -/
theorem sampY1 : k0_pay33 (k0_pay5 v) (k0_pay30 t1) (k0_pay32 (k0_pay3 v) t1) = fun j => coord (v (ix1 1)) (v (ix1 3)) (t1 j) := by
  unfold k0_pay33 k0_pay32 k0_pay30 k0_pay29; rw [num1, num3, shapeCast_self]; rfl

variable {v t0 t1} {ln : Fin 4 → F .f32} {t : Fin 32 → F .f32}

/-- What the loaded vectors hold: the line's four numbers in the first four lanes, the sample positions by halves. -/
structure Loaded (v t0 t1 : Vec F S16 .f32) (ln : Fin 4 → F .f32) (t : Fin 32 → F .f32) : Prop where
  n0 : v (ix1 0) = ln 0
  n1 : v (ix1 1) = ln 1
  n2 : v (ix1 2) = ln 2
  n3 : v (ix1 3) = ln 3
  p0 : ∀ j : S16.Idx, t0 j = t ⟨16 * 0 + (j 0).val, by have : (j 0).val < 16 := (j 0).isLt; omega⟩
  p1 : ∀ j : S16.Idx, t1 j = t ⟨16 * 1 + (j 0).val, by have : (j 0).val < 16 := (j 0).isLt; omega⟩

/-- The stored row numbers are the rows of the four grid points. -/
theorem Loaded.lists (H : Loaded v t0 t1 ln t) : Lists (listVec v t0 t1) ln t := by
  intro h k hh j
  unfold sampX sampY
  rw [← H.n0, ← H.n1, ← H.n2, ← H.n3]
  match h, hh with
  | 0, _ =>
    rw [← H.p0 j]
    match k with
    | 0 => show k0_pay25 _ _ j = _; unfold k0_pay25 k0_pay23 k0_pay10 k0_pay11; rw [shapeCast_self, sampX0, sampY0]; rfl
    | 1 => show k0_pay26 _ _ j = _; unfold k0_pay26 k0_pay23 k0_pay12 k0_pay10 k0_pay11; rw [shapeCast_self, sampX0, sampY0]; rfl
    | 2 => show k0_pay27 _ _ _ j = _; unfold k0_pay27 k0_pay24 k0_pay14 k0_pay13 k0_pay10 k0_pay11; rw [shapeCast_self, sampX0, sampY0]; rfl
    | 3 => show k0_pay28 _ _ _ j = _; unfold k0_pay28 k0_pay24 k0_pay14 k0_pay13 k0_pay12 k0_pay10 k0_pay11; rw [shapeCast_self, sampX0, sampY0]; rfl
  | 1, _ =>
    rw [← H.p1 j]
    match k with
    | 0 => show k0_pay48 _ _ _ _ j = _; unfold k0_pay48 k0_pay46 k0_pay35 k0_pay34; rw [shapeCast_self, sampX1, sampY1]; rfl
    | 1 => show k0_pay50 (k0_pay49 _ _ _ _) j = _; unfold k0_pay50 k0_pay49 k0_pay46 k0_pay36 k0_pay35 k0_pay34; rw [shapeCast_self, sampX1, sampY1]; rfl
    | 2 => show k0_pay51 _ _ j = _; unfold k0_pay51 k0_pay47 k0_pay37 k0_pay35 k0_pay34; rw [shapeCast_self, sampX1, sampY1]; rfl
    | 3 => show k0_pay52 _ _ j = _; unfold k0_pay52 k0_pay47 k0_pay37 k0_pay36 k0_pay35 k0_pay34; rw [shapeCast_self, sampX1, sampY1]; rfl

/-- The weights kept are the weights of the four grid points. -/
theorem Loaded.weights (H : Loaded v t0 t1 ln t) (h : Nat) (k : Fin 4) (hh : h < 2) (j : S16.Idx) :
    weightVec v t0 t1 h k j = weight k (sampX ln t ⟨16 * h + (j 0).val, by have : (j 0).val < 16 := (j 0).isLt; omega⟩)
      (sampY ln t ⟨16 * h + (j 0).val, by have : (j 0).val < 16 := (j 0).isLt; omega⟩) := by
  unfold sampX sampY
  rw [← H.n0, ← H.n1, ← H.n2, ← H.n3]
  match h, hh with
  | 0, _ =>
    rw [← H.p0 j]
    match k with
    | 0 => show k0_pay19 _ _ _ _ _ j = _; unfold k0_pay19 k0_pay17 k0_pay15 k0_pay14 k0_pay13 k0_pay12 k0_pay11 k0_pay10; rw [sampX0, sampY0]; rfl
    | 1 => show k0_pay20 _ _ _ _ _ j = _; unfold k0_pay20 k0_pay17 k0_pay16 k0_pay14 k0_pay13 k0_pay11 k0_pay10; rw [sampX0, sampY0]; rfl
    | 2 => show k0_pay21 _ _ _ _ j = _; unfold k0_pay21 k0_pay18 k0_pay15 k0_pay12 k0_pay11 k0_pay10; rw [sampX0, sampY0]; rfl
    | 3 => show k0_pay22 _ _ _ _ j = _; unfold k0_pay22 k0_pay18 k0_pay16 k0_pay11 k0_pay10; rw [sampX0, sampY0]; rfl
  | 1, _ =>
    rw [← H.p1 j]
    match k with
    | 0 => show k0_pay42 _ _ _ _ j = _; unfold k0_pay42 k0_pay40 k0_pay38 k0_pay37 k0_pay36 k0_pay35 k0_pay34; rw [sampX1, sampY1]; rfl
    | 1 => show k0_pay43 _ _ _ _ j = _; unfold k0_pay43 k0_pay40 k0_pay39 k0_pay37 k0_pay35 k0_pay34; rw [sampX1, sampY1]; rfl
    | 2 => show k0_pay44 _ _ _ _ j = _; unfold k0_pay44 k0_pay41 k0_pay38 k0_pay36 k0_pay35 k0_pay34; rw [sampX1, sampY1]; rfl
    | 3 => show k0_pay45 _ _ _ _ j = _; unfold k0_pay45 k0_pay41 k0_pay39 k0_pay35 k0_pay34; rw [sampX1, sampY1]; rfl

/-! ## The gathered rows -/

/-- Rows gathered by the list, with the weights kept, are what a line needs. -/
theorem Loaded.holds (H : Loaded v t0 t1 ln t) (g : S16384x128.Idx → Elt F .f32) (ix : S128.Idx → Elt F .i32)
    (hix : ∀ y, ix y = listAt ln t (y 0)) (hn : S128.numel = S128x128.size gathers_S16384x128_S128x128.axis')
    (hin : ∀ x, (ix x).toNat < S16384x128.size gathers_S16384x128_S128x128.axis) :
    Holds (SparseCore.gatherPayload (F := F) (e := .f32) gathers_S16384x128_S128x128 g (SparseCore.rows ix hn hin)) (weightVec v t0 t1) ln t
      (fun r c => g (ValueIdx.ix2 r c)) := by
  intro k s c
  rw [H.weights (s.val / 16) k (by omega)]
  unfold term
  have es : (⟨16 * (s.val / 16) + s.val % 16, by omega⟩ : Fin 32) = s := Fin.ext (by show 16 * (s.val / 16) + s.val % 16 = s.val; omega)
  have ew : ix (S128.rowMajor.symm ((⟨32 * k.val + s.val, by omega⟩ : Fin 128).cast hn.symm))
      = corner k (sampX ln t s) (sampY ln t s) := by
    have e0 : ((S128.rowMajor.symm ((⟨32 * k.val + s.val, by omega⟩ : Fin 128).cast hn.symm)) 0).val = 32 * k.val + s.val := by
      have := Shape.rowMajor_val_one (S128.rowMajor.symm ((⟨32 * k.val + s.val, by omega⟩ : Fin 128).cast hn.symm))
      rw [Equiv.apply_symm_apply] at this
      exact this.symm
    rw [hix]
    unfold listAt
    have e1 : (32 * k.val + s.val) / 32 = k.val := by omega
    have e2 : (32 * k.val + s.val) % 32 = s.val := by omega
    simp only [e0, e1, e2]
  refine congrArg₂ FloatOps.mulf ?_ ?_
  · refine congrArg g (funext fun a => Fin.ext ?_)
    match a with
    | 0 =>
      show (gathers_S16384x128_S128x128.idx _ _ gathers_S16384x128_S128x128.axis).val = _
      rw [Shape.Gathers.idx_axis]
      exact (congrArg BitVec.toNat ew : (ix _).toNat = _)
    | 1 => exact Shape.Gathers.idx_of_ne _ _ _ 1 (by decide)
  · show weight k (sampX ln t ⟨16 * (s.val / 16) + s.val % 16, _⟩) (sampY ln t ⟨16 * (s.val / 16) + s.val % 16, _⟩) = _
    rw [es]

end Cert.Proof.Sample

end
-- ==== Proof.Trip.lean ====
/-
  One trip of a tile's loop: the line's four numbers and the sample positions are read, the rows of the four grid points of
  every sample are gathered, weighted, added and pooled, and the pooled line is copied to its row of the output.
-/
module

public import proofs.«01_k».proof.Proof.Vectors

@[expose] public section

noncomputable section

namespace Cert.Proof.Sample

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 1) (Elt F) ℕ UU ℕ

local notation "tabV" => (Memref.whole Cert.KernelIdeal.main_v1_scv : Memref Cert.KernelIdeal.sig Kind.scVector Space.hbm Cert.KernelIdeal.S16384x128 EltTy.f32)
local notation "linV" => (Memref.whole Cert.KernelIdeal.main_v2_scv : Memref Cert.KernelIdeal.sig Kind.scVector Space.hbm Cert.KernelIdeal.S32768 EltTy.f32)
local notation "cstV" => (Memref.whole Cert.KernelIdeal.main_cst_scv : Memref Cert.KernelIdeal.sig Kind.scVector Space.hbm Cert.KernelIdeal.S32 EltTy.f32)
local notation "outV" => (Memref.whole Cert.KernelIdeal.main_v3_scv : Memref Cert.KernelIdeal.sig Kind.scVector Space.hbm Cert.KernelIdeal.S8192x1024 EltTy.f32)
local notation "lnsV" => (Memref.whole Cert.KernelIdeal.cc0_scratch0 : Memref Cert.KernelIdeal.sig Kind.scVector Space.vmem Cert.KernelIdeal.S1040 EltTy.f32)
local notation "tspV" => (Memref.whole Cert.KernelIdeal.cc0_scratch1 : Memref Cert.KernelIdeal.sig Kind.scVector Space.vmem Cert.KernelIdeal.S32 EltTy.f32)
local notation "idxV" => (Memref.whole Cert.KernelIdeal.cc0_scratch2 : Memref Cert.KernelIdeal.sig Kind.scVector Space.vmem Cert.KernelIdeal.S128 EltTy.i32)
local notation "rowV" => (Memref.whole Cert.KernelIdeal.cc0_scratch3 : Memref Cert.KernelIdeal.sig Kind.scVector Space.vmem Cert.KernelIdeal.S128x128 EltTy.f32)
local notation "accV" => (Memref.whole Cert.KernelIdeal.cc0_scratch4 : Memref Cert.KernelIdeal.sig Kind.scVector Space.vmem Cert.KernelIdeal.S1024 EltTy.f32)

variable (d : Dev nD) (L : grid0.Coords)

/-- The tile's SparseCore. -/
abbrev cV (L : grid0.Coords) : Fin τ.nSC := (L 0).castLE hcore0
/-- The tile's number on it. -/
abbrev jV (L : grid0.Coords) : Fin τ.nSub := (L 1).castLE hsub0

/-- The row of the output that trip `k` of the tile's loop writes, as the tile addresses it. -/
abbrev outRow (L : grid0.Coords) (k : Fin k0_t1_loop.trips) : Memref sig .scVector .hbm S1024 .f32 :=
  ((outV).slice (Rect.unit (s := S8192x1024) (k0_off3 L k) S1x1024.size (k0_off3_inb L k)) (fun _ => rfl)).squeeze S1024 squeezes_S1x1024_S1024

/-- The loop makes 256 trips. -/
theorem trips_eq : k0_t1_loop.trips = 256 := by decide

/-- A trip's number is below 256. -/
theorem trip_lt (k : Fin k0_t1_loop.trips) : k.val < 256 := trips_eq ▸ k.isLt

/-- The four numbers of line `k` of the tile, as its copy of the lines holds them. -/
def lnAt (lns : Buf (Elt F) ((lnsV).view.loc (V d (cV L) (jV L)))) (k : Fin k0_t1_loop.trips) (i : Fin 4) : F .f32 :=
  (lnsV).view.read (Elt F) lns (ix1 (n := 1040) ⟨4 * k.val + i.val, by have := trip_lt k; omega⟩)

/-- The sample positions, as the tile's copy holds them. -/
def posAt (tsp : Buf (Elt F) ((tspV).view.loc (V d (cV L) (jV L)))) (s : Fin 32) : F .f32 :=
  (tspV).view.read (Elt F) tsp (ix1 s)

/-- The table by row and feature. -/
def tabAt (tab : Buf (Elt F) ((tabV).view.loc (V d (cV L) (jV L)))) (r : Fin 16384) (c : Fin 128) : F .f32 :=
  (tabV).view.read (Elt F) tab (ix2 r c)

/-- What the trip's vector loads hold. -/
theorem loaded (k : Fin k0_t1_loop.trips) (lns : Buf (Elt F) ((lnsV).view.loc (V d (cV L) (jV L))))
    (tsp : Buf (Elt F) ((tspV).view.loc (V d (cV L) (jV L)))) :
    Loaded ((lnsV).view.readAt (Elt F) (Rect.unit (s := S1040) (k0_off2 k) S16.size (k0_off2_inb k)).toLoadRect lns)
      ((tspV).view.readAt (Elt F) (Rect.unit (s := S32) ![0] S16.size inb_S32_S16_0).toLoadRect tsp)
      ((tspV).view.readAt (Elt F) (Rect.unit (s := S32) ![16] S16.size inb_S32_S16_16).toLoadRect tsp)
      (lnAt d L lns k) (posAt d L tsp) := by
  have e : k0_off2 k 0 = 4 * k.val := congrFun (k0_off2_eq k) 0
  have num (i : Fin 4) : (lnsV).view.readAt (Elt F) (Rect.unit (s := S1040) (k0_off2 k) S16.size (k0_off2_inb k)).toLoadRect lns
      (ix1 (n := 16) ⟨i.val, by omega⟩) = lnAt d L lns k i := by
    rw [View.readAt_apply]
    refine congrArg ((lnsV).view.read (Elt F) lns) (funext fun a => Fin.ext ?_)
    match a with
    | 0 => show k0_off2 k 0 + 1 * i.val = 4 * k.val + i.val; omega
  refine ⟨num 0, num 1, num 2, num 3, fun j => ?_, fun j => ?_⟩
  · rw [View.readAt_apply]
    refine congrArg ((tspV).view.read (Elt F) tsp) (funext fun a => Fin.ext ?_)
    match a with
    | 0 => show 0 + 1 * (j 0).val = 16 * 0 + (j 0).val; omega
  · rw [View.readAt_apply]
    refine congrArg ((tspV).view.read (Elt F) tsp) (funext fun a => Fin.ext ?_)
    match a with
    | 0 => show 16 + 1 * (j 0).val = 16 * 1 + (j 0).val; omega

/-- The table read through the slice the gather names it by is the table. -/
theorem tabAt_slice (tab : Buf (Elt F) ((tabV).view.loc (V d (cV L) (jV L)))) (inb : ∀ a, (![0, 0] : Fin 2 → Nat) a + S16384x128.size a ≤ S16384x128.size a) (r : Fin 16384) (c : Fin 128) :
    ((tabV).view.slice (Rect.unit (s := S16384x128) ![0, 0] S16384x128.size inb)).read (Elt F) tab (ix2 r c) = tabAt d L tab r c := by
  refine congrArg ((tabV).view.read (Elt F) tab) (funext fun a => Fin.ext ?_)
  match a with
  | 0 => show 0 + 1 * r.val = r.val; omega
  | 1 => show 0 + 1 * c.val = c.val; omega

set_option maxHeartbeats 4000000 in
/-- A trip of the loop: it leaves line `k` of the output in its row, and everything else as it was up to the contents of the
    buffers it works in. -/
theorem trip (k : Fin k0_t1_loop.trips) (w : BitVec 32) (q : PosShare TreeShare) (O : CellTallies nD τ sig (HIx 1)) (W : Waits sig (HIx 1))
    (tab : Buf (Elt F) ((tabV).view.loc (V d (cV L) (jV L))))
    (lns : Buf (Elt F) ((lnsV).view.loc (V d (cV L) (jV L))))
    (tsp : Buf (Elt F) ((tspV).view.loc (V d (cV L) (jV L))))
    (ix : Buf (Elt F) ((idxV).view.loc (V d (cV L) (jV L))))
    (rw_ : Buf (Elt F) ((rowV).view.loc (V d (cV L) (jV L))))
    (ac : Buf (Elt F) ((accV).view.loc (V d (cV L) (jV L))))
    (out : Buf (Elt F) ((outRow L k).view.loc (V d (cV L) (jV L)))) :
    iprop(Transfers.MayWaits (V d (cV L) (jV L)) (default : HIx 1) O
        ∗ ((tabV).view.loc (V d (cV L) (jV L)) ↦{q} tab)
        ∗ ((lnsV).view.loc (V d (cV L) (jV L)) ↦{fullShare} lns)
        ∗ ((tspV).view.loc (V d (cV L) (jV L)) ↦{fullShare} tsp)
        ∗ ((idxV).view.loc (V d (cV L) (jV L)) ↦{fullShare} ix)
        ∗ ((rowV).view.loc (V d (cV L) (jV L)) ↦{fullShare} rw_)
        ∗ ((accV).view.loc (V d (cV L) (jV L)) ↦{fullShare} ac)
        ∗ ((outRow L k).view.loc (V d (cV L) (jV L)) ↦[(outRow L k).view.set]{fullShare} out)
        ∗ semVal (V d (cV L) (jV L), .dma cc0_scratch5.sem) 0
        ∗ semVal (V d (cV L) (jV L), .dma cc0_scoped2.sem) 0
        ∗ owes (V d (cV L) (jV L)) O W)
      ⊢ (wp frame (wpE (defs₀ (F := F)) 𝒱₀ (V d (cV L) (jV L)) none) Set.univ
          (k0_t1_body (F := F) L tabV (Memref.isWhole_whole _) linV (Memref.isWhole_whole _) cstV (Memref.isWhole_whole _) outV (Memref.isWhole_whole _)
            lnsV (Memref.isWhole_whole _) tspV (Memref.isWhole_whole _) idxV (Memref.isWhole_whole _) rowV (Memref.isWhole_whole _) accV (Memref.isWhole_whole _)
            cc0_scratch5 cc0_scratch6 cc0_scoped0 cc0_scoped1 cc0_scoped2 w k ())
          fun _ => (iprop(((tabV).view.loc (V d (cV L) (jV L)) ↦{q} tab)
        ∗ ((lnsV).view.loc (V d (cV L) (jV L)) ↦{fullShare} lns)
        ∗ ((tspV).view.loc (V d (cV L) (jV L)) ↦{fullShare} tsp)
        ∗ (∃ f, (idxV).view.loc (V d (cV L) (jV L)) ↦{fullShare} f)
        ∗ (∃ f, (rowV).view.loc (V d (cV L) (jV L)) ↦{fullShare} f)
        ∗ (∃ f, (accV).view.loc (V d (cV L) (jV L)) ↦{fullShare} f)
        ∗ ((outRow L k).view.loc (V d (cV L) (jV L)) ↦[(outRow L k).view.set]{fullShare}
            (outRow L k).view.writes (Elt F) out [⟨Rect.whole S1024, fun y => lineOut (lnAt d L lns k) (posAt d L tsp) (tabAt d L tab) (y 0)⟩])
        ∗ semVal (V d (cV L) (jV L), .dma cc0_scratch5.sem) 0
        ∗ semVal (V d (cV L) (jV L), .dma cc0_scoped2.sem) 0
        ∗ owes (V d (cV L) (jV L)) O (insert (.dma cc0_scoped2.sem, default) (insert (.dma cc0_scratch5.sem, default) W))) : sProp 𝕄)) := by
  unfold k0_t1_body
  iintro ⟨#Hmw, Htab, Hlns, Htsp, Hidx, Hrow, Hacc, Hout, Hsg, Hso, HO⟩
  sl_exec
  have H := loaded d L k lns tsp
  have hlist : ∀ y, View.read (Elt F) (Memref.whole cc0_scratch2).view
      ((Memref.whole cc0_scratch2).view.writes (Elt F) (Memref.whole cc0_scratch2).view.junk (trip.sl.Hidx_8 d L k lns tsp)) y
        = listAt (lnAt d L lns k) (posAt d L tsp) (y 0) := fun y => H.lists.read _ _ y
  have hin : ∀ x, (BitVec.toNat (View.read (Elt F) (Memref.whole cc0_scratch2).view
      ((Memref.whole cc0_scratch2).view.writes (Elt F) (Memref.whole cc0_scratch2).view.junk (trip.sl.Hidx_8 d L k lns tsp)) x))
      < S16384x128.size gathers_S16384x128_S128x128.axis := fun x => by rw [hlist x]; exact listAt_lt _
  sl_exec_parts
  have hv : trip.sl.dma1152 d L k tab lns tsp ac hin = fun y => lineOut (lnAt d L lns k) (posAt d L tsp) (tabAt d L tab) (y 0) := by
    have hg := H.holds (View.read (Elt F) ((tabV).view.slice (Rect.unit (s := S16384x128) ![0, 0] S16384x128.size inb_S16384x128_S16384x128_0_0)) tab) _ hlist rfl hin
    rw [show (fun r c => View.read (Elt F) ((tabV).view.slice (Rect.unit (s := S16384x128) ![0, 0] S16384x128.size inb_S16384x128_S16384x128_0_0)) tab (ix2 r c))
      = tabAt d L tab from funext fun r => funext fun c => tabAt_slice d L tab _ r c] at hg
    exact funext fun y => hg.read _ _ y
  rw [hv]
  sl_step
  isplitl [Htab]; · iexact Htab
  isplitl [Hlns]; · iexact Hlns
  isplitl [Htsp]; · iexact Htsp
  isplitl [Hidx]; · iexists _; iexact Hidx
  isplitl [Hrow]; · iexists _; iexact Hrow
  isplitl [Hacc]; · iexists _; iexact Hacc
  isplitl [Hout]; · iexact Hout
  isplitl [Hsg]; · iexact Hsg
  isplitl [Hso]; · iexact Hso
  iexact HO

end Cert.Proof.Sample

end
-- ==== Proof.Block.lean ====
/-
  The block of the output a tile writes, row after row, and what one trip of the tile's loop leaves in it.
-/
module

public import proofs.«01_k».proof.Proof.Trip

@[expose] public section

noncomputable section

namespace Cert.Proof.Sample

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 1) (Elt F) ℕ UU ℕ

local notation "tabV" => (Memref.whole Cert.KernelIdeal.main_v1_scv : Memref Cert.KernelIdeal.sig Kind.scVector Space.hbm Cert.KernelIdeal.S16384x128 EltTy.f32)
local notation "linV" => (Memref.whole Cert.KernelIdeal.main_v2_scv : Memref Cert.KernelIdeal.sig Kind.scVector Space.hbm Cert.KernelIdeal.S32768 EltTy.f32)
local notation "cstV" => (Memref.whole Cert.KernelIdeal.main_cst_scv : Memref Cert.KernelIdeal.sig Kind.scVector Space.hbm Cert.KernelIdeal.S32 EltTy.f32)
local notation "outV" => (Memref.whole Cert.KernelIdeal.main_v3_scv : Memref Cert.KernelIdeal.sig Kind.scVector Space.hbm Cert.KernelIdeal.S8192x1024 EltTy.f32)
local notation "lnsV" => (Memref.whole Cert.KernelIdeal.cc0_scratch0 : Memref Cert.KernelIdeal.sig Kind.scVector Space.vmem Cert.KernelIdeal.S1040 EltTy.f32)
local notation "tspV" => (Memref.whole Cert.KernelIdeal.cc0_scratch1 : Memref Cert.KernelIdeal.sig Kind.scVector Space.vmem Cert.KernelIdeal.S32 EltTy.f32)
local notation "idxV" => (Memref.whole Cert.KernelIdeal.cc0_scratch2 : Memref Cert.KernelIdeal.sig Kind.scVector Space.vmem Cert.KernelIdeal.S128 EltTy.i32)
local notation "rowV" => (Memref.whole Cert.KernelIdeal.cc0_scratch3 : Memref Cert.KernelIdeal.sig Kind.scVector Space.vmem Cert.KernelIdeal.S128x128 EltTy.f32)
local notation "accV" => (Memref.whole Cert.KernelIdeal.cc0_scratch4 : Memref Cert.KernelIdeal.sig Kind.scVector Space.vmem Cert.KernelIdeal.S1024 EltTy.f32)

/-- The table, the lines, the sample positions and the output, as device `d`'s arrays. -/
abbrev tabLoc (d : Dev nD) : Loc nD τ sig := (SparseCore.T d).loc main_v1
/-- The lines' numbers in HBM. -/
abbrev linLoc (d : Dev nD) : Loc nD τ sig := (SparseCore.T d).loc main_v2
/-- The sample positions in HBM. -/
abbrev cstLoc (d : Dev nD) : Loc nD τ sig := (SparseCore.T d).loc main_cst
/-- The call's output in HBM. -/
abbrev outLoc (d : Dev nD) : Loc nD τ sig := (SparseCore.T d).loc main_v3

/-! ## The output as a function of the table, the lines and the positions -/

/-- Number `i` of line `n`. -/
def lineNum (B : S32768.Idx → F .f32) (n : Fin 8192) (i : Fin 4) : F .f32 := B (ix1 (n := 32768) ⟨4 * n.val + i.val, by omega⟩)

/-- The output: row `n` is the pooled line `n`. -/
def outOf (A : S16384x128.Idx → F .f32) (B : S32768.Idx → F .f32) (C : S32.Idx → F .f32) : S8192x1024.Idx → F .f32 :=
  fun y => lineOut (lineNum B (y 0)) (fun s => C (ix1 s)) (fun r c => A (ix2 r c)) (y 1)

/-- The output when the first `k` rows of every block of 256 are written and the others are still `O`'s. -/
def mix (A : S16384x128.Idx → F .f32) (B : S32768.Idx → F .f32) (C : S32.Idx → F .f32) (O : S8192x1024.Idx → F .f32) (k : Nat) :
    S8192x1024.Idx → F .f32 :=
  fun y => if (y 0).val % 256 < k then outOf A B C y else O y

/-! ## Blocks and rows -/

/-- The number of a tile. -/
def wid (L : grid0.Coords) : Nat := 16 * (L 0).val + (L 1).val

/-- There are thirty-two tiles. -/
theorem wid_lt (L : grid0.Coords) : wid L < 32 := by
  have h0 : (L 0).val < 2 := (L 0).isLt
  have h1 : (L 1).val < 16 := (L 1).isLt
  unfold wid; omega

/-- The block of tile number `w`: 256 rows of the output. -/
def blk (w : Nat) : Finset S8192x1024.Idx := Finset.univ.filter fun y => (y 0).val / 256 = w

/-- A place is in block `w` exactly when its row is among rows `256 w … 256 w + 255`. -/
theorem mem_blk (w : Nat) (y : S8192x1024.Idx) : y ∈ blk w ↔ (y 0).val / 256 = w := by
  unfold blk; simp

/-- The row of the output, hence the line, of trip `k` of a tile. -/
def rowNo (L : grid0.Coords) (k : Fin k0_t1_loop.trips) : Fin 8192 :=
  ⟨256 * wid L + k.val, by have := wid_lt L; have := trip_lt k; omega⟩

/-- The row a trip writes is the output's row of that trip's line. -/
theorem emb_outRow (L : grid0.Coords) (k : Fin k0_t1_loop.trips) (x : S1024.Idx) :
    (outRow L k).view.emb x = (ix2 (rowNo L k) (x 0) : S8192x1024.Idx) := by
  have hs : Shape.reshapeEquiv squeezes_S1x1024_S1024.numel_eq x = (ix2 (0 : Fin 1) (x 0) : S1x1024.Idx) := by
    refine Shape.reshapeEquiv_eq_of_rowMajor _ ?_
    rw [Shape.rowMajor_val_one, Shape.rowMajor_val_two]
    show 0 * 1024 + (x 0).val = (x 0).val
    omega
  show (Rect.unit (s := S8192x1024) (k0_off3 L k) S1x1024.size (k0_off3_inb L k)).emb (Shape.reshapeEquiv squeezes_S1x1024_S1024.numel_eq x) = _
  rw [hs]
  have e0 : k0_off3 L k 0 = 4096 * (L 0).val + 256 * (L 1).val + k.val := congrFun (k0_off3_eq L k) 0
  have e1 : k0_off3 L k 1 = 0 := congrFun (k0_off3_eq L k) 1
  funext a
  refine Fin.ext ?_
  match a with
  | 0 => show k0_off3 L k 0 + 1 * 0 = 256 * wid L + k.val; unfold wid; omega
  | 1 => show k0_off3 L k 1 + 1 * (x 0).val = (x 0).val; omega

/-- A place is in the row a trip writes exactly when its row number is the trip's. -/
theorem mem_outRow (L : grid0.Coords) (k : Fin k0_t1_loop.trips) (y : S8192x1024.Idx) :
    y ∈ (outRow L k).view.set ↔ (y 0).val = 256 * wid L + k.val := by
  constructor
  · intro h
    obtain ⟨x, -, hx⟩ := Finset.mem_map.mp h
    rw [emb_outRow] at hx
    rw [← hx]; rfl
  · intro h
    refine Finset.mem_map.mpr ⟨ix1 (y 1), Finset.mem_univ _, ?_⟩
    rw [emb_outRow]
    funext a
    match a with
    | 0 => exact Fin.ext h.symm
    | 1 => rfl

/-- The row a trip writes is in its tile's block. -/
theorem outRow_subset (L : grid0.Coords) (k : Fin k0_t1_loop.trips) : (outRow L k).view.set ⊆ blk (wid L) := fun y hy => by
  have h := (mem_outRow L k y).mp hy
  have := trip_lt k
  rw [mem_blk]; omega

/-- Off the row of trip `k`, one row more is the same. -/
theorem mix_off (A : S16384x128.Idx → F .f32) (B : S32768.Idx → F .f32) (C : S32.Idx → F .f32) (O : S8192x1024.Idx → F .f32)
    (L : grid0.Coords) (k : Fin k0_t1_loop.trips) (y : S8192x1024.Idx) (hb : y ∈ blk (wid L)) (hy : y ∉ (outRow L k).view.set) :
    mix A B C O k.val y = mix A B C O (k.val + 1) y := by
  rw [mem_blk] at hb
  rw [mem_outRow] at hy
  unfold mix
  have : (y 0).val % 256 < k.val ↔ (y 0).val % 256 < k.val + 1 := by omega
  simp only [this]

/-- On the row of trip `k`, what the trip writes is one row more. -/
theorem mix_on (A : S16384x128.Idx → F .f32) (B : S32768.Idx → F .f32) (C : S32.Idx → F .f32) (O O' : S8192x1024.Idx → F .f32)
    (L : grid0.Coords) (k : Fin k0_t1_loop.trips) (y : S8192x1024.Idx) (hy : y ∈ (outRow L k).view.set) :
    (outRow L k).view.writes (Elt F) O' [⟨Rect.whole S1024, fun x => lineOut (lineNum B (rowNo L k)) (fun s => C (ix1 s)) (fun r c => A (ix2 r c)) (x 0)⟩] y
      = mix A B C O (k.val + 1) y := by
  obtain ⟨x, -, hx⟩ := Finset.mem_map.mp hy
  have hr := View.read_writes_whole (Val := Elt F) (outRow L k).view O'
    (fun x => lineOut (lineNum B (rowNo L k)) (fun s => C (ix1 s)) (fun r c => A (ix2 r c)) (x 0))
  have hr' := congrFun hr x
  rw [View.read_apply, cast_eq, hx] at hr'
  refine hr'.trans ?_
  have hx' := hx
  rw [emb_outRow] at hx'
  unfold mix outOf
  rw [← hx']
  have hk : ((ix2 (rowNo L k) (x 0) : S8192x1024.Idx) 0).val % 256 < k.val + 1 := by
    show (256 * wid L + k.val) % 256 < k.val + 1
    have := trip_lt k
    omega
  rw [if_pos hk]

/-! ## A trip, on the tile's block -/

variable (d : Dev nD) (L : grid0.Coords)

/-- What a tile holds between two trips of its loop with `k` rows of its block written: the table at a share, its copies of
    the lines and of the positions, the buffers it works in, its block of the output, and its counters at zero. -/
def tileHolds (q : PosShare TreeShare) (A : S16384x128.Idx → F .f32) (B : S32768.Idx → F .f32) (C : S32.Idx → F .f32) (O : S8192x1024.Idx → F .f32)
    (lns : Buf (Elt F) ((lnsV).view.loc (V d (cV L) (jV L)))) (tsp : Buf (Elt F) ((tspV).view.loc (V d (cV L) (jV L)))) (k : Nat) : sProp 𝕄 :=
  iprop(((tabV).view.loc (V d (cV L) (jV L)) ↦{q} (A : Buf (Elt F) (tabLoc d)))
    ∗ ((lnsV).view.loc (V d (cV L) (jV L)) ↦{fullShare} lns)
    ∗ ((tspV).view.loc (V d (cV L) (jV L)) ↦{fullShare} tsp)
    ∗ (∃ f, (idxV).view.loc (V d (cV L) (jV L)) ↦{fullShare} f)
    ∗ (∃ f, (rowV).view.loc (V d (cV L) (jV L)) ↦{fullShare} f)
    ∗ (∃ f, (accV).view.loc (V d (cV L) (jV L)) ↦{fullShare} f)
    ∗ (outLoc d ↦[blk (wid L)]{fullShare} (mix A B C O k : Buf (Elt F) (outLoc d)))
    ∗ semVal (V d (cV L) (jV L), .dma cc0_scratch5.sem) 0
    ∗ semVal (V d (cV L) (jV L), .dma cc0_scoped2.sem) 0)

/-- The row a trip wrote and the rest of the block make the block with one row more. -/
theorem join_row (k : Fin k0_t1_loop.trips) (A : S16384x128.Idx → F .f32) (B : S32768.Idx → F .f32) (C : S32.Idx → F .f32) (O O' : S8192x1024.Idx → F .f32) :
    iprop((outLoc d ↦[(outRow L k).view.set]{fullShare} ((outRow L k).view.writes (Elt F) O'
          [⟨Rect.whole S1024, fun x => lineOut (lineNum B (rowNo L k)) (fun s => C (ix1 s)) (fun r c => A (ix2 r c)) (x 0)⟩] : Buf (Elt F) (outLoc d)))
        ∗ (outLoc d ↦[blk (wid L) \ (outRow L k).view.set]{fullShare} (mix A B C O k.val : Buf (Elt F) (outLoc d))))
      ⊢ (outLoc d ↦[blk (wid L)]{fullShare} (mix A B C O (k.val + 1) : Buf (Elt F) (outLoc d)) : sProp 𝕄) := by
  have e1 : (outLoc d ↦[(outRow L k).view.set]{fullShare} ((outRow L k).view.writes (Elt F) O'
          [⟨Rect.whole S1024, fun x => lineOut (lineNum B (rowNo L k)) (fun s => C (ix1 s)) (fun r c => A (ix2 r c)) (x 0)⟩] : Buf (Elt F) (outLoc d)) : sProp 𝕄)
      = (outLoc d ↦[(outRow L k).view.set]{fullShare} (mix A B C O (k.val + 1) : Buf (Elt F) (outLoc d))) :=
    pointsTo_congr fun y hy => mix_on A B C O O' L k y hy
  have e2 : (outLoc d ↦[blk (wid L) \ (outRow L k).view.set]{fullShare} (mix A B C O k.val : Buf (Elt F) (outLoc d)) : sProp 𝕄)
      = (outLoc d ↦[blk (wid L) \ (outRow L k).view.set]{fullShare} (mix A B C O (k.val + 1) : Buf (Elt F) (outLoc d))) :=
    pointsTo_congr fun y hy => mix_off A B C O L k y (Finset.mem_sdiff.mp hy).1 (Finset.mem_sdiff.mp hy).2
  rw [e1, e2]
  exact (pointsTo_split_subset (q := fullShare) (outRow_subset L k)).2

/-- A trip writes one row more of the tile's block. -/
theorem trip_block (k : Fin k0_t1_loop.trips) (w : BitVec 32) (q : PosShare TreeShare) (Ow : CellTallies nD τ sig (HIx 1)) (W : Waits sig (HIx 1))
    (A : S16384x128.Idx → F .f32) (B : S32768.Idx → F .f32) (C : S32.Idx → F .f32) (O : S8192x1024.Idx → F .f32)
    (lns : Buf (Elt F) ((lnsV).view.loc (V d (cV L) (jV L)))) (tsp : Buf (Elt F) ((tspV).view.loc (V d (cV L) (jV L))))
    (hl : lnAt d L lns k = lineNum B (rowNo L k)) (ht : posAt d L tsp = fun s => C (ix1 s)) :
    iprop(Transfers.MayWaits (V d (cV L) (jV L)) (default : HIx 1) Ow ∗ tileHolds d L q A B C O lns tsp k.val ∗ owes (V d (cV L) (jV L)) Ow W)
      ⊢ (wp frame (wpE (defs₀ (F := F)) 𝒱₀ (V d (cV L) (jV L)) none) Set.univ
          (k0_t1_body (F := F) L tabV (Memref.isWhole_whole _) linV (Memref.isWhole_whole _) cstV (Memref.isWhole_whole _) outV (Memref.isWhole_whole _)
            lnsV (Memref.isWhole_whole _) tspV (Memref.isWhole_whole _) idxV (Memref.isWhole_whole _) rowV (Memref.isWhole_whole _) accV (Memref.isWhole_whole _)
            cc0_scratch5 cc0_scratch6 cc0_scoped0 cc0_scoped1 cc0_scoped2 w k ())
          fun _ => (iprop(tileHolds d L q A B C O lns tsp (k.val + 1)
            ∗ owes (V d (cV L) (jV L)) Ow (insert (.dma cc0_scoped2.sem, default) (insert (.dma cc0_scratch5.sem, default) W))) : sProp 𝕄)) := by
  unfold tileHolds
  iintro ⟨#Hmw, ⟨Htab, Hlns, Htsp, ⟨%fi, Hidx⟩, ⟨%fr, Hrow⟩, ⟨%fa, Hacc⟩, Hblk, Hsg, Hso⟩, HO⟩
  ihave Hs := (pointsTo_split_subset (q := fullShare) (outRow_subset L k)).1 $$ Hblk
  icases Hs with ⟨Hout, Hrest⟩
  iapply (wp_wand_r frame (wpE (defs₀ (F := F)) 𝒱₀ (V d (cV L) (jV L)) none))
  isplitl [Htab Hlns Htsp Hidx Hrow Hacc Hout Hsg Hso HO]
  · iapply (trip d L k w q Ow W A lns tsp fi fr fa (mix A B C O k.val))
    isplitr; · iexact Hmw
    isplitl [Htab]; · iexact Htab
    isplitl [Hlns]; · iexact Hlns
    isplitl [Htsp]; · iexact Htsp
    isplitl [Hidx]; · iexact Hidx
    isplitl [Hrow]; · iexact Hrow
    isplitl [Hacc]; · iexact Hacc
    isplitl [Hout]; · iexact Hout
    isplitl [Hsg]; · iexact Hsg
    isplitl [Hso]; · iexact Hso
    iexact HO
  · iintro %_ ⟨Htab, Hlns, Htsp, Hidx, Hrow, Hacc, Hout, Hsg, Hso, HO⟩
    isplitr [HO]
    · isplitl [Htab]; · iexact Htab
      isplitl [Hlns]; · iexact Hlns
      isplitl [Htsp]; · iexact Htsp
      isplitl [Hidx]; · iexact Hidx
      isplitl [Hrow]; · iexact Hrow
      isplitl [Hacc]; · iexact Hacc
      isplitl [Hout Hrest]
      · iapply (join_row d L k A B C O (mix A B C O k.val))
        isplitl [Hout]
        · rw [← hl, ← ht]
          iexact Hout
        · iexact Hrest
      isplitl [Hsg]; · iexact Hsg
      iexact Hso
    · iexact HO

end Cert.Proof.Sample

end
-- ==== Proof.Tile.lean ====
/-
  A tile's program: it copies its lines and the sample positions in, runs its loop, and leaves its block of the output
  written.
-/
module

public import proofs.«01_k».proof.Proof.Block
public import Idealize.ShloMosaic.Lib.WritesUnit

@[expose] public section

noncomputable section

namespace Cert.Proof.Sample

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 1) (Elt F) ℕ UU ℕ

local notation "tabV" => (Memref.whole Cert.KernelIdeal.main_v1_scv : Memref Cert.KernelIdeal.sig Kind.scVector Space.hbm Cert.KernelIdeal.S16384x128 EltTy.f32)
local notation "linV" => (Memref.whole Cert.KernelIdeal.main_v2_scv : Memref Cert.KernelIdeal.sig Kind.scVector Space.hbm Cert.KernelIdeal.S32768 EltTy.f32)
local notation "cstV" => (Memref.whole Cert.KernelIdeal.main_cst_scv : Memref Cert.KernelIdeal.sig Kind.scVector Space.hbm Cert.KernelIdeal.S32 EltTy.f32)
local notation "outV" => (Memref.whole Cert.KernelIdeal.main_v3_scv : Memref Cert.KernelIdeal.sig Kind.scVector Space.hbm Cert.KernelIdeal.S8192x1024 EltTy.f32)
local notation "lnsV" => (Memref.whole Cert.KernelIdeal.cc0_scratch0 : Memref Cert.KernelIdeal.sig Kind.scVector Space.vmem Cert.KernelIdeal.S1040 EltTy.f32)
local notation "tspV" => (Memref.whole Cert.KernelIdeal.cc0_scratch1 : Memref Cert.KernelIdeal.sig Kind.scVector Space.vmem Cert.KernelIdeal.S32 EltTy.f32)
local notation "idxV" => (Memref.whole Cert.KernelIdeal.cc0_scratch2 : Memref Cert.KernelIdeal.sig Kind.scVector Space.vmem Cert.KernelIdeal.S128 EltTy.i32)
local notation "rowV" => (Memref.whole Cert.KernelIdeal.cc0_scratch3 : Memref Cert.KernelIdeal.sig Kind.scVector Space.vmem Cert.KernelIdeal.S128x128 EltTy.f32)
local notation "accV" => (Memref.whole Cert.KernelIdeal.cc0_scratch4 : Memref Cert.KernelIdeal.sig Kind.scVector Space.vmem Cert.KernelIdeal.S1024 EltTy.f32)

variable (d : Dev nD) (L : grid0.Coords)

/-! ## What a tile takes and gives back -/

/-- What a tile works with: a share of the table, of the lines and of the positions, and its block of the output at `O`. -/
def tileArrays (q : PosShare TreeShare) (A : S16384x128.Idx → F .f32) (B : S32768.Idx → F .f32) (C : S32.Idx → F .f32) (w : Nat)
    (O : S8192x1024.Idx → F .f32) : sProp 𝕄 :=
  iprop((tabLoc d ↦{q} (A : Buf (Elt F) (tabLoc d)))
    ∗ (linLoc d ↦{q} (B : Buf (Elt F) (linLoc d)))
    ∗ (cstLoc d ↦{q} (C : Buf (Elt F) (cstLoc d)))
    ∗ (outLoc d ↦[blk w]{fullShare} (O : Buf (Elt F) (outLoc d))))

/-! ## The tile's own counters and buffers -/

/-- The counter of the gathers. -/
abbrev gatherCell (d : Dev nD) (c : Fin τ.nSC) (i : Fin τ.nSub) : GSem nD τ sig := (V d c i, .dma cc0_scratch5.sem)
/-- The counter of the copy of the lines' numbers. -/
abbrev linesCell (d : Dev nD) (c : Fin τ.nSC) (i : Fin τ.nSub) : GSem nD τ sig := (V d c i, .dma cc0_scoped0.sem)
/-- The counter of the copy of the sample positions. -/
abbrev posCell (d : Dev nD) (c : Fin τ.nSC) (i : Fin τ.nSub) : GSem nD τ sig := (V d c i, .dma cc0_scoped1.sem)
/-- The counter of the copies of the output's rows. -/
abbrev outCell (d : Dev nD) (c : Fin τ.nSC) (i : Fin τ.nSub) : GSem nD τ sig := (V d c i, .dma cc0_scoped2.sem)

/-- The four counters the tile waits at are among its own. -/
theorem ownSems0_V :
    (ownSems0 (V d (cV L) (jV L)) : sProp 𝕄)
      = iprop(semVal (gatherCell d (cV L) (jV L)) 0 ∗ semVal (linesCell d (cV L) (jV L)) 0 ∗ semVal (posCell d (cV L) (jV L)) 0
          ∗ semVal (outCell d (cV L) (jV L)) 0
          ∗ bigSep (((((ownCells (V d (cV L) (jV L))).erase (gatherCell d (cV L) (jV L))).erase (linesCell d (cV L) (jV L))).erase
              (posCell d (cV L) (jV L))).erase (outCell d (cV L) (jV L))) fun g => semVal g 0) := by
  unfold SparseCore.Cfg.ownSems0
  rw [SparseCore.bigSep_erase' ((mem_ownCells (g := gatherCell d (cV L) (jV L))).mpr ⟨rfl, by
      show (SemLoc.dma cc0_scratch5.sem : SemLoc sig).isScoped .scVector = true; decide⟩),
    SparseCore.bigSep_erase' (Finset.mem_erase.mpr ⟨by simp [gatherCell, linesCell]; decide, (mem_ownCells (g := linesCell d (cV L) (jV L))).mpr ⟨rfl, by
      show (SemLoc.dma cc0_scoped0.sem : SemLoc sig).isScoped .scVector = true; decide⟩⟩),
    SparseCore.bigSep_erase' (Finset.mem_erase.mpr ⟨by simp [linesCell, posCell]; decide, Finset.mem_erase.mpr ⟨by simp [gatherCell, posCell]; decide,
      (mem_ownCells (g := posCell d (cV L) (jV L))).mpr ⟨rfl, by show (SemLoc.dma cc0_scoped1.sem : SemLoc sig).isScoped .scVector = true; decide⟩⟩⟩),
    SparseCore.bigSep_erase' (Finset.mem_erase.mpr ⟨by simp [posCell, outCell]; decide, Finset.mem_erase.mpr ⟨by simp [linesCell, outCell]; decide,
      Finset.mem_erase.mpr ⟨by simp [gatherCell, outCell]; decide, (mem_ownCells (g := outCell d (cV L) (jV L))).mpr ⟨rfl, by
        show (SemLoc.dma cc0_scoped2.sem : SemLoc sig).isScoped .scVector = true; decide⟩⟩⟩⟩)]

/-- The names of the tile's own buffers. -/
abbrev refV (L : grid0.Coords) (b : Ref sig .scVector) : DevRef τ sig := (Proc.scVector (cV L) (jV L)).devRef b

/-- Buffers of different names are different. -/
theorem refV_ne {b b' : Ref sig .scVector} (h : b ≠ b') : refV L b ≠ refV L b' := fun e => absurd (Proc.devRef_injective _ e) h

/-- The five buffers the tile works in are among its own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f)
          ∗ bigSep ((((((ownRefs (τ := τ) (.scVector (cV L) (jV L))).erase (refV L cc0_scratch0)).erase (refV L cc0_scratch1)).erase
              (refV L cc0_scratch2)).erase (refV L cc0_scratch3)).erase (refV L cc0_scratch4))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := refV L cc0_scratch0) rfl)).trans ?_
  rw [SparseCore.bigSep_erase' (Finset.mem_erase.mpr ⟨refV_ne L (show (cc0_scratch1 : Ref sig .scVector) ≠ cc0_scratch0 by decide),
      SparseCore.Cfg.mem_ownRefs_of_owner (p := Proc.scVector (cV L) (jV L)) (b := refV L cc0_scratch1) rfl⟩),
    SparseCore.bigSep_erase' (Finset.mem_erase.mpr ⟨refV_ne L (show (cc0_scratch2 : Ref sig .scVector) ≠ cc0_scratch1 by decide),
      Finset.mem_erase.mpr ⟨refV_ne L (show (cc0_scratch2 : Ref sig .scVector) ≠ cc0_scratch0 by decide),
      SparseCore.Cfg.mem_ownRefs_of_owner (p := Proc.scVector (cV L) (jV L)) (b := refV L cc0_scratch2) rfl⟩⟩),
    SparseCore.bigSep_erase' (Finset.mem_erase.mpr ⟨refV_ne L (show (cc0_scratch3 : Ref sig .scVector) ≠ cc0_scratch2 by decide),
      Finset.mem_erase.mpr ⟨refV_ne L (show (cc0_scratch3 : Ref sig .scVector) ≠ cc0_scratch1 by decide),
      Finset.mem_erase.mpr ⟨refV_ne L (show (cc0_scratch3 : Ref sig .scVector) ≠ cc0_scratch0 by decide),
      SparseCore.Cfg.mem_ownRefs_of_owner (p := Proc.scVector (cV L) (jV L)) (b := refV L cc0_scratch3) rfl⟩⟩⟩),
    SparseCore.bigSep_erase' (Finset.mem_erase.mpr ⟨refV_ne L (show (cc0_scratch4 : Ref sig .scVector) ≠ cc0_scratch3 by decide),
      Finset.mem_erase.mpr ⟨refV_ne L (show (cc0_scratch4 : Ref sig .scVector) ≠ cc0_scratch2 by decide),
      Finset.mem_erase.mpr ⟨refV_ne L (show (cc0_scratch4 : Ref sig .scVector) ≠ cc0_scratch1 by decide),
      Finset.mem_erase.mpr ⟨refV_ne L (show (cc0_scratch4 : Ref sig .scVector) ≠ cc0_scratch0 by decide),
      SparseCore.Cfg.mem_ownRefs_of_owner (p := Proc.scVector (cV L) (jV L)) (b := refV L cc0_scratch4) rfl⟩⟩⟩⟩)]

/-! ## The copies in -/

/-- After the copy of the lines the tile's own lines are the ones its rows of the output are made from. -/
theorem lines_copied (f : Buf (Elt F) ((lnsV).view.loc (V d (cV L) (jV L)))) (B : S32768.Idx → F .f32) (k : Fin k0_t1_loop.trips) :
    lnAt d L ((lnsV).view.writes (Elt F) f [⟨Rect.unit (s := S1040) ![0] S1024.size inb_S1040_S1024_0,
        ((linV).slice (Rect.unit (s := S32768) (k0_off1 L) S1024.size (k0_off1_inb L)) (fun _ => rfl)).view.read (Elt F) B⟩]) k
      = lineNum B (rowNo L k) := by
  have hk := trip_lt k
  have e : k0_off1 L 0 = 16384 * (L 0).val + 1024 * (L 1).val := congrFun (k0_off1_eq L) 0
  funext i
  unfold lnAt
  refine (View.read_writes_cons_unit_of_mem (Val := Elt F) (lnsV).view f inb_S1040_S1024_0 _ [] _ (ix1 (n := 1024) ⟨4 * k.val + i.val, by omega⟩) rfl
    (fun a => ?_)).trans ?_
  · match a with
    | 0 => show 4 * k.val + i.val = 0 + (4 * k.val + i.val); omega
  · rw [View.read_apply, cast_eq]
    refine congrArg B (funext fun a => Fin.ext ?_)
    match a with
    | 0 => show k0_off1 L 0 + 1 * (4 * k.val + i.val) = 4 * (256 * wid L + k.val) + i.val; unfold wid; omega

/-- After the copy of the positions the tile's own are the positions. -/
theorem positions_copied (f : Buf (Elt F) ((tspV).view.loc (V d (cV L) (jV L)))) (C : S32.Idx → F .f32) :
    posAt d L (View.write (Elt F) (tspV).view f ((cstV).view.read (Elt F) C) Finset.univ) = fun s => C (ix1 s) := by
  funext s
  unfold posAt
  rw [View.read_write_univ]
  rfl

/-! ## The loop and the program around it -/

/-- What holds before trip `k` of the loop: the first `k` rows of the tile's block are written. -/
def inv (q : PosShare TreeShare) (A : S16384x128.Idx → F .f32) (B : S32768.Idx → F .f32) (C : S32.Idx → F .f32) (O : S8192x1024.Idx → F .f32)
    (lns : Buf (Elt F) ((lnsV).view.loc (V d (cV L) (jV L)))) (tsp : Buf (Elt F) ((tspV).view.loc (V d (cV L) (jV L))))
    (Ow : CellTallies nD τ sig (HIx 1)) (W : Waits sig (HIx 1)) (k : Nat) (_ : PUnit) : sProp 𝕄 :=
  iprop(Transfers.MayWaits (V d (cV L) (jV L)) (default : HIx 1) Ow ∗ tileHolds d L q A B C O lns tsp k
    ∗ ∃ W', ⌜∀ p ∈ W', p ∈ W ∨ p.2 = none⌝ ∗ owes (V d (cV L) (jV L)) Ow W')

/-- With no row written the output is as it was; -/
theorem mix_zero (A : S16384x128.Idx → F .f32) (B : S32768.Idx → F .f32) (C : S32.Idx → F .f32) (O : S8192x1024.Idx → F .f32) : mix A B C O 0 = O :=
  funext fun _ => if_neg (Nat.not_lt_zero _)

/-- with all 256 of a block written it is the pooled lines. -/
theorem mix_all (A : S16384x128.Idx → F .f32) (B : S32768.Idx → F .f32) (C : S32.Idx → F .f32) (O : S8192x1024.Idx → F .f32) : mix A B C O 256 = outOf A B C :=
  funext fun _ => if_pos (Nat.mod_lt _ (by decide))

set_option maxHeartbeats 4000000 in
/-- A tile's program leaves its block of the output at the pooled lines, and everything else as it was. -/
theorem tile_body (hF : (K (F := F)).Facts) (q : PosShare TreeShare) (A : S16384x128.Idx → F .f32) (B : S32768.Idx → F .f32) (C : S32.Idx → F .f32)
    (O : S8192x1024.Idx → F .f32) (Ow : CellTallies nD τ sig (HIx 1)) (W : Waits sig (HIx 1)) (hO : ∀ g, Ow g none = 0) :
    iprop(levAts (K (F := F)).L (K (F := F)).lev ∗ emp ∗ tileArrays d q A B C (wid L) O
        ∗ scopedBufs (V d (cV L) (jV L)) ∗ scopedSems0 (V d (cV L) (jV L)) ∗ owes (V d (cV L) (jV L)) Ow W)
      ⊢ (wp frame (wpE (defs₀ (F := F)) 𝒱₀ (V d (cV L) (jV L)) none) Set.univ
          (cc0__sc_body (F := F) L tabV (Memref.isWhole_whole _) linV (Memref.isWhole_whole _) cstV (Memref.isWhole_whole _) outV (Memref.isWhole_whole _)
            lnsV (Memref.isWhole_whole _) tspV (Memref.isWhole_whole _) idxV (Memref.isWhole_whole _) rowV (Memref.isWhole_whole _) accV (Memref.isWhole_whole _)
            cc0_scratch5 cc0_scratch6 cc0_scoped0 cc0_scoped1 cc0_scoped2)
          fun _ => iprop(tileArrays d q A B C (wid L) (outOf A B C)
            ∗ scopedBufs (V d (cV L) (jV L)) ∗ scopedSems0 (V d (cV L) (jV L))
            ∗ ∃ W', ⌜∀ p ∈ W', p ∈ W ∨ p.2 = none⌝ ∗ owes (V d (cV L) (jV L)) Ow W') : sProp 𝕄) := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  unfold tileArrays
  iintro ⟨#Hlv, -, ⟨Htab, Hlin, Hcst, Hout⟩, ⟨⟨%f0, Hlns⟩, ⟨%f1, Htsp⟩, Hidx, Hrow, Hacc, Hbufs⟩, ⟨Hsg, Hsl, Hsp, Hso, Hsems⟩, HO⟩
  ihave #Hmw := (show levAts (K (F := F)).L (K (F := F)).lev ⊢ Transfers.MayWaits (V d (cV L) (jV L)) (default : HIx 1) Ow from
    (K (F := F)).mayWaits_none (thr := V d (cV L) (jV L)) hO) $$ Hlv
  ihave Hlin := (Entails.of_eq (show (linLoc d ↦{q} (B : Buf (Elt F) (linLoc d)) : sProp 𝕄) = (linV).view.loc (V d (cV L) (jV L)) ↦{q} (B : Buf (Elt F) (linLoc d)) from rfl)) $$ Hlin
  ihave Hcst := (Entails.of_eq (show (cstLoc d ↦{q} (C : Buf (Elt F) (cstLoc d)) : sProp 𝕄) = (cstV).view.loc (V d (cV L) (jV L)) ↦{q} (C : Buf (Elt F) (cstLoc d)) from rfl)) $$ Hcst
  ihave Hlns := (Entails.of_eq (show ((V d (cV L) (jV L)).loc cc0_scratch0 ↦{fullShare} f0 : sProp 𝕄) = (lnsV).view.loc (V d (cV L) (jV L)) ↦{fullShare} f0 from rfl)) $$ Hlns
  ihave Htsp := (Entails.of_eq (show ((V d (cV L) (jV L)).loc cc0_scratch1 ↦{fullShare} f1 : sProp 𝕄) = (tspV).view.loc (V d (cV L) (jV L)) ↦{fullShare} f1 from rfl)) $$ Htsp
  sl_exec
  have hl := fun k => lines_copied d L f0 B k
  have ht := positions_copied d L f1 C
  sl_for (inv d L q A B C O ((lnsV).view.writes (Elt F) f0 [⟨Rect.unit (s := S1040) ![0] S1024.size inb_S1040_S1024_0,
        ((linV).slice (Rect.unit (s := S32768) (k0_off1 L) S1024.size (k0_off1_inb L)) (fun _ => rfl)).view.read (Elt F) B⟩])
      (View.write (Elt F) (tspV).view f1 ((cstV).view.read (Elt F) C) Finset.univ) Ow W) $$ [Htab Hout Hidx Hrow Hacc Hsg Hso Hlns Htsp HO]
  case region =>
    intro k _
    unfold inv
    iintro ⟨#Hmw, Ht, %W', %hW', HO⟩
    iapply (wp_wand_r frame (wpE (defs₀ (F := F)) 𝒱₀ (V d (cV L) (jV L)) none))
    isplitl [Ht HO]
    · iapply (trip_block d L k _ q Ow W' A B C O _ _ (hl k) ht)
      isplitr; · iexact Hmw
      isplitl [Ht]; · iexact Ht
      iexact HO
    · iintro %_ ⟨Ht, HO⟩
      isplitr; · iexact Hmw
      isplitl [Ht]; · iexact Ht
      iexists _; isplitr
      swap; · iexact HO
      ipureintro; intro p hp
      rcases Finset.mem_insert.mp hp with hp | hp; · exact .inr (hp ▸ rfl)
      rcases Finset.mem_insert.mp hp with hp | hp; · exact .inr (hp ▸ rfl)
      exact hW' p hp
  · unfold inv tileHolds
    isplitr; · iexact Hmw
    isplitl [Htab Hout Hidx Hrow Hacc Hsg Hso Hlns Htsp]
    · isplitl [Htab]; · iexact Htab
      isplitl [Hlns]; · iexact Hlns
      isplitl [Htsp]; · iexact Htsp
      isplitl [Hidx]; · iexact Hidx
      isplitl [Hrow]; · iexact Hrow
      isplitl [Hacc]; · iexact Hacc
      isplitl [Hout]
      · rw [mix_zero]; iexact Hout
      isplitl [Hsg]; · iexact Hsg
      iexact Hso
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact .inl hp
  iintro %_ HI
  unfold inv tileHolds
  icases HI with ⟨-, ⟨Htab, Hlns, Htsp, Hidx, Hrow, Hacc, Hout, Hsg, Hso⟩, HO⟩
  sl_exec
  sl_step
  isplitl [Htab Hlin Hcst Hout]
  · isplitl [Htab]; · iexact Htab
    isplitl [Hlin]; · iexact Hlin
    isplitl [Hcst]; · iexact Hcst
    rw [show Scf.trips k0_t1_loop.lb k0_t1_loop.ub k0_t1_loop.st = 256 from trips_eq, mix_all]
    iexact Hout
  isplitl [Hlns Htsp Hidx Hrow Hacc Hbufs]
  · isplitl [Hlns]; · iexists _; iexact Hlns
    isplitl [Htsp]; · iexists _; iexact Htsp
    isplitl [Hidx]; · iexact Hidx
    isplitl [Hrow]; · iexact Hrow
    isplitl [Hacc]; · iexact Hacc
    iexact Hbufs
  isplitl [Hsg Hsl Hsp Hso Hsems]
  · isplitl [Hsg]; · iexact Hsg
    isplitl [Hsl]; · iexact Hsl
    isplitl [Hsp]; · iexact Hsp
    isplitl [Hso]; · iexact Hso
    iexact Hsems
  iexact HO

end Cert.Proof.Sample

end
-- ==== Proof.Split.lean ====
/-
  The launch: the host's arrays around the call, how the call's operands go out to the thirty-two tiles and come back, and
  the run of the whole program.
-/
module

public import proofs.«01_k».proof.Proof.Tile
public import Idealize.ShloMosaic.Lib.ShareLeaves
public import Idealize.ShloMosaic.Lib.Pipeline.Frame

@[expose] public section

noncomputable section

namespace Cert.Proof.Sample

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)
open Idealize.ShloMosaic.ShareLeaves (leaf pointsTo_leaves)
open Idealize.ShloMosaic.StableHlo (held after seq)

variable {F : FTy → Type} [FloatOps F]

local notation "𝕄" => MT nD τ sig (HIx 1) (Elt F) ℕ UU ℕ

local notation "tabV" => (Memref.whole Cert.KernelIdeal.main_v1_scv : Memref Cert.KernelIdeal.sig Kind.scVector Space.hbm Cert.KernelIdeal.S16384x128 EltTy.f32)
local notation "linV" => (Memref.whole Cert.KernelIdeal.main_v2_scv : Memref Cert.KernelIdeal.sig Kind.scVector Space.hbm Cert.KernelIdeal.S32768 EltTy.f32)
local notation "cstV" => (Memref.whole Cert.KernelIdeal.main_cst_scv : Memref Cert.KernelIdeal.sig Kind.scVector Space.hbm Cert.KernelIdeal.S32 EltTy.f32)
local notation "outV" => (Memref.whole Cert.KernelIdeal.main_v3_scv : Memref Cert.KernelIdeal.sig Kind.scVector Space.hbm Cert.KernelIdeal.S8192x1024 EltTy.f32)
local notation "lnsV" => (Memref.whole Cert.KernelIdeal.cc0_scratch0 : Memref Cert.KernelIdeal.sig Kind.scVector Space.vmem Cert.KernelIdeal.S1040 EltTy.f32)
local notation "tspV" => (Memref.whole Cert.KernelIdeal.cc0_scratch1 : Memref Cert.KernelIdeal.sig Kind.scVector Space.vmem Cert.KernelIdeal.S32 EltTy.f32)
local notation "idxV" => (Memref.whole Cert.KernelIdeal.cc0_scratch2 : Memref Cert.KernelIdeal.sig Kind.scVector Space.vmem Cert.KernelIdeal.S128 EltTy.i32)
local notation "rowV" => (Memref.whole Cert.KernelIdeal.cc0_scratch3 : Memref Cert.KernelIdeal.sig Kind.scVector Space.vmem Cert.KernelIdeal.S128x128 EltTy.f32)
local notation "accV" => (Memref.whole Cert.KernelIdeal.cc0_scratch4 : Memref Cert.KernelIdeal.sig Kind.scVector Space.vmem Cert.KernelIdeal.S1024 EltTy.f32)

/-! ## The operands of the call, split among the tiles -/

/-- The number of tile `i` of SparseCore `c`. -/
def tileNo (c : Fin 2) (i : Fin 16) : Fin (2 ^ 5) := ⟨16 * c.val + i.val, by omega⟩

/-- What tile `w` of the thirty-two works with. -/
def tileShare (d : Dev nD) (A : S16384x128.Idx → F .f32) (B : S32768.Idx → F .f32) (C : S32.Idx → F .f32) (O : S8192x1024.Idx → F .f32)
    (w : Fin (2 ^ 5)) : sProp 𝕄 :=
  tileArrays d (leaf 5 fullShare w) A B C w.val O

/-- What the call works with: the table, the lines, the positions and the output, whole. -/
def callArrays (d : Dev nD) (A : S16384x128.Idx → F .f32) (B : S32768.Idx → F .f32) (C : S32.Idx → F .f32) (O : S8192x1024.Idx → F .f32) : sProp 𝕄 :=
  iprop((tabLoc d ↦{fullShare} (A : Buf (Elt F) (tabLoc d)))
    ∗ (linLoc d ↦{fullShare} (B : Buf (Elt F) (linLoc d)))
    ∗ (cstLoc d ↦{fullShare} (C : Buf (Elt F) (cstLoc d)))
    ∗ (outLoc d ↦{fullShare} (O : Buf (Elt F) (outLoc d))))

/-- Two tiles' blocks have no place in common. -/
theorem blk_disjoint : ∀ w ∈ (Finset.univ : Finset (Fin (2 ^ 5))), ∀ w' ∈ (Finset.univ : Finset (Fin (2 ^ 5))), w ≠ w' →
    Disjoint (blk w.val) (blk w'.val) := fun w _ w' _ h => by
  rw [Finset.disjoint_left]
  intro y hy hy'
  rw [mem_blk] at hy hy'
  exact h (Fin.ext (hy.symm.trans hy'))

/-- The thirty-two blocks make up the output. -/
theorem blk_cover : (Finset.univ : Finset (Fin (2 ^ 5))).biUnion (fun w => blk w.val) = Finset.univ := by
  ext y
  have hy : (y 0).val < 8192 := (y 0).isLt
  simp only [Finset.mem_biUnion, Finset.mem_univ, true_and, iff_true]
  exact ⟨⟨(y 0).val / 256, by omega⟩, (mem_blk _ y).mpr rfl⟩

/-- The output is its thirty-two blocks. -/
theorem out_blocks (d : Dev nD) (O : Buf (Elt F) (outLoc d)) :
    (outLoc d ↦{fullShare} O : sProp 𝕄) = bigSep Finset.univ fun w : Fin (2 ^ 5) => outLoc d ↦[blk w.val]{fullShare} O := by
  rw [← pointsTo_biUnion Finset.univ (ℓ := outLoc d) (fun w : Fin (2 ^ 5) => blk w.val) blk_disjoint, blk_cover]; try rfl

/-- An array is its thirty-two shares. -/
theorem array_shares (ℓ : Loc nD τ sig) (f : Buf (Elt F) ℓ) :
    (ℓ ↦{fullShare} f : sProp 𝕄) = bigSep Finset.univ fun w : Fin (2 ^ 5) => ℓ ↦{leaf 5 fullShare w} f :=
  pointsTo_leaves Finset.univ f 5 fullShare

/-- The call's operands are the tiles', together. -/
theorem callArrays_tiles (d : Dev nD) (A : S16384x128.Idx → F .f32) (B : S32768.Idx → F .f32) (C : S32.Idx → F .f32) (O : S8192x1024.Idx → F .f32) :
    (callArrays d A B C O : sProp 𝕄) = bigSep Finset.univ (tileShare d A B C O) := by
  unfold callArrays
  rw [out_blocks, array_shares (tabLoc d), array_shares (linLoc d), array_shares (cstLoc d), ← bigSep_sep', ← bigSep_sep', ← bigSep_sep']
  rfl

/-- The tiles' shares, SparseCore by SparseCore. -/
theorem tiles_cores (Φ : Fin (2 ^ 5) → sProp 𝕄) :
    bigSep Finset.univ Φ = bigSep Finset.univ fun c : Fin 2 => bigSep Finset.univ fun i : Fin 16 => Φ (tileNo c i) := by
  rw [bigSep_univ_equiv (finProdFinEquiv : Fin 2 × Fin 16 ≃ Fin 32) Φ, bigSep_univ_prod]
  refine bigSep_congr fun c _ => bigSep_congr fun i _ => congrArg Φ (Fin.ext ?_)
  show i.val + 16 * c.val = 16 * c.val + i.val
  omega

end Cert.Proof.Sample

end
-- ==== Proof.HostOps.lean ====
/-
  The run of the whole program: the host's operations before the call, the call on the thirty-two tiles, the host's
  operations after it, and what the arrays hold at the end.
-/
module

public import proofs.«01_k».proof.Proof.Split
public import Idealize.ShloMosaic.Lib.Pipeline.Frame

@[expose] public section

noncomputable section

namespace Cert.Proof.Sample

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)
open Idealize.ShloMosaic.ShareLeaves (leaf pointsTo_leaves)
open Idealize.ShloMosaic.StableHlo (held after seq)

variable {F : FTy → Type} [FloatOps F]

local notation "𝕄" => MT nD τ sig (HIx 1) (Elt F) ℕ UU ℕ

local notation "tabV" => (Memref.whole Cert.KernelIdeal.main_v1_scv : Memref Cert.KernelIdeal.sig Kind.scVector Space.hbm Cert.KernelIdeal.S16384x128 EltTy.f32)
local notation "linV" => (Memref.whole Cert.KernelIdeal.main_v2_scv : Memref Cert.KernelIdeal.sig Kind.scVector Space.hbm Cert.KernelIdeal.S32768 EltTy.f32)
local notation "cstV" => (Memref.whole Cert.KernelIdeal.main_cst_scv : Memref Cert.KernelIdeal.sig Kind.scVector Space.hbm Cert.KernelIdeal.S32 EltTy.f32)
local notation "outV" => (Memref.whole Cert.KernelIdeal.main_v3_scv : Memref Cert.KernelIdeal.sig Kind.scVector Space.hbm Cert.KernelIdeal.S8192x1024 EltTy.f32)
local notation "lnsV" => (Memref.whole Cert.KernelIdeal.cc0_scratch0 : Memref Cert.KernelIdeal.sig Kind.scVector Space.vmem Cert.KernelIdeal.S1040 EltTy.f32)
local notation "tspV" => (Memref.whole Cert.KernelIdeal.cc0_scratch1 : Memref Cert.KernelIdeal.sig Kind.scVector Space.vmem Cert.KernelIdeal.S32 EltTy.f32)
local notation "idxV" => (Memref.whole Cert.KernelIdeal.cc0_scratch2 : Memref Cert.KernelIdeal.sig Kind.scVector Space.vmem Cert.KernelIdeal.S128 EltTy.i32)
local notation "rowV" => (Memref.whole Cert.KernelIdeal.cc0_scratch3 : Memref Cert.KernelIdeal.sig Kind.scVector Space.vmem Cert.KernelIdeal.S128x128 EltTy.f32)
local notation "accV" => (Memref.whole Cert.KernelIdeal.cc0_scratch4 : Memref Cert.KernelIdeal.sig Kind.scVector Space.vmem Cert.KernelIdeal.S1024 EltTy.f32)

variable (m : (ℓ : Loc nD τ sig) → Buf (Elt F) ℓ) (ρ : Dev nD → PrngReg)

/-! ## The host's operations, as functions -/

/-- The table: the feature map with the features last, one row per grid point. -/
def tabOf (x : S128x128x128.Idx → F .f32) : S16384x128.Idx → F .f32 :=
  shapeCast S16384x128 (transpose S128x128x128 [1, 2, 0] x transposes_S128x128x128_S128x128x128_1_2_0) shapeCasts_S128x128x128_S16384x128

/-- The lines' numbers in one row. -/
def linOf (l : S8192x4.Idx → F .f32) : S32768.Idx → F .f32 := shapeCast S32768 l shapeCasts_S8192x4_S32768

/-- The sample positions. -/
def posOf : S32.Idx → F .f32 := fun i => FloatOps.ofBits .f32 (lit0 (S32.rowMajor i))

/-- The result: every row of the call's output with the features first. -/
def resOf (o : S8192x1024.Idx → F .f32) : S8192x1024.Idx → F .f32 :=
  shapeCast S8192x1024 (transpose S8192x128x8 [0, 2, 1] (shapeCast S8192x8x128 o shapeCasts_S8192x1024_S8192x8x128) transposes_S8192x8x128_S8192x128x8_0_2_1)
    shapeCasts_S8192x128x8_S8192x1024

/-- The whole program's result, from its two arguments. -/
def kernelOf (x : S128x128x128.Idx → F .f32) (l : S8192x4.Idx → F .f32) : S8192x1024.Idx → F .f32 :=
  resOf (outOf (tabOf x) (linOf l) posOf)

/-! ## The arrays before, between and after -/

/-- The feature map on a device. -/
abbrev featLoc (d : Dev nD) : Loc nD τ sig := (SparseCore.T d).loc main_arg0
/-- The lines on a device. -/
abbrev lineLoc (d : Dev nD) : Loc nD τ sig := (SparseCore.T d).loc main_arg1
/-- The result on a device. -/
abbrev resLoc (d : Dev nD) : Loc nD τ sig := (SparseCore.T d).loc main_v6

/-- An array of the host, by name. -/
abbrev host (b : Ref sig .tc) : DevRef τ sig := Proc.devRef .tc b

/-- The host's operations before the call. -/
def opsBefore : List (HloOp τ sig (Elt F)) :=
  [StableHlo.nullary main_cst (fun i => FloatOps.ofBits .f32 (lit0 (S32.rowMajor i))),
   StableHlo.unary main_arg0 main_v0 ((transpose S128x128x128 [1, 2, 0] · transposes_S128x128x128_S128x128x128_1_2_0) : (⟨S128x128x128, .f32⟩ : BufTy).Contents (Elt F) → (⟨S128x128x128, .f32⟩ : BufTy).Contents (Elt F)),
   StableHlo.reshape main_v0 main_v1 (rfl : (.f32 : EltTy) = .f32) shapeCasts_S128x128x128_S16384x128,
   StableHlo.reshape main_arg1 main_v2 (rfl : (.f32 : EltTy) = .f32) shapeCasts_S8192x4_S32768]

/-- The host's operations after it. -/
def opsAfter : List (HloOp τ sig (Elt F)) :=
  [StableHlo.reshape main_v3 main_v4 (rfl : (.f32 : EltTy) = .f32) shapeCasts_S8192x1024_S8192x8x128,
   StableHlo.unary main_v4 main_v5 ((transpose S8192x128x8 [0, 2, 1] · transposes_S8192x8x128_S8192x128x8_0_2_1) : (⟨S8192x8x128, .f32⟩ : BufTy).Contents (Elt F) → (⟨S8192x128x8, .f32⟩ : BufTy).Contents (Elt F)),
   StableHlo.reshape main_v5 main_v6 (rfl : (.f32 : EltTy) = .f32) shapeCasts_S8192x128x8_S8192x1024]

/-- The arrays at the launch, before the call, after the call and at the end. -/
def V0 (d : Dev nD) : Valuation τ sig (Elt F) := fun b => m (d, b)
/-- The arrays when the call begins. -/
def V1 (d : Dev nD) : Valuation τ sig (Elt F) := after opsBefore (V0 m d)
/-- The arrays when the call is done: its output written. -/
def V2 (d : Dev nD) : Valuation τ sig (Elt F) :=
  Function.update (V1 m d) (host main_v3) (outOf (tabOf (m (featLoc d))) (linOf (m (lineLoc d))) posOf)
/-- The arrays at the end. -/
def V3 (d : Dev nD) : Valuation τ sig (Elt F) := after opsAfter (V2 m d)

/-- The table the call finds. -/
theorem V1_table (d : Dev nD) : V1 m d (host main_v1) = tabOf (m (featLoc d)) := by
  unfold V1 opsBefore
  after_results
  rfl

/-- The lines' numbers the call finds. -/
theorem V1_lines (d : Dev nD) : V1 m d (host main_v2) = linOf (m (lineLoc d)) := by
  unfold V1 opsBefore
  after_results
  rfl

/-- The sample positions the call finds. -/
theorem V1_positions (d : Dev nD) : V1 m d (host main_cst) = posOf (F := F) := by
  unfold V1 opsBefore
  after_results
  rfl

/-- The output array is untouched before the call. -/
theorem V1_out (d : Dev nD) : V1 m d (host main_v3) = m (outLoc d) := by
  unfold V1 opsBefore
  after_results
  rfl

/-- The feature map is as it was at the end. -/
theorem V3_features (d : Dev nD) : V3 m d (host main_arg0) = m (featLoc d) := by
  unfold V3 opsAfter V2 V1 opsBefore
  after_results
  rfl

/-- So are the lines. -/
theorem V3_line (d : Dev nD) : V3 m d (host main_arg1) = m (lineLoc d) := by
  unfold V3 opsAfter V2 V1 opsBefore
  after_results
  rfl

/-- The result at the end is the program's function of its two arguments. -/
theorem V3_result (d : Dev nD) : V3 m d (host main_v6) = kernelOf (m (featLoc d)) (m (lineLoc d)) := by
  unfold V3 opsAfter V2
  after_results
  rfl

end Cert.Proof.Sample

end
-- ==== Proof.Launch.lean ====
/-
  The run of the whole program: what the call's handshakes carry, the tiles' obligation, the host's program around the
  call, and what the arrays hold when everything has stopped.
-/
module

public import proofs.«01_k».proof.Proof.HostOps
public import Idealize.ShloMosaic.Lib.Pipeline.Frame

@[expose] public section

noncomputable section

namespace Cert.Proof.Sample

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)
open Idealize.ShloMosaic.ShareLeaves (leaf pointsTo_leaves)
open Idealize.ShloMosaic.StableHlo (held after seq)

variable {F : FTy → Type} [FloatOps F]

local notation "𝕄" => MT nD τ sig (HIx 1) (Elt F) ℕ UU ℕ

local notation "tabV" => (Memref.whole Cert.KernelIdeal.main_v1_scv : Memref Cert.KernelIdeal.sig Kind.scVector Space.hbm Cert.KernelIdeal.S16384x128 EltTy.f32)
local notation "linV" => (Memref.whole Cert.KernelIdeal.main_v2_scv : Memref Cert.KernelIdeal.sig Kind.scVector Space.hbm Cert.KernelIdeal.S32768 EltTy.f32)
local notation "cstV" => (Memref.whole Cert.KernelIdeal.main_cst_scv : Memref Cert.KernelIdeal.sig Kind.scVector Space.hbm Cert.KernelIdeal.S32 EltTy.f32)
local notation "outV" => (Memref.whole Cert.KernelIdeal.main_v3_scv : Memref Cert.KernelIdeal.sig Kind.scVector Space.hbm Cert.KernelIdeal.S8192x1024 EltTy.f32)
local notation "lnsV" => (Memref.whole Cert.KernelIdeal.cc0_scratch0 : Memref Cert.KernelIdeal.sig Kind.scVector Space.vmem Cert.KernelIdeal.S1040 EltTy.f32)
local notation "tspV" => (Memref.whole Cert.KernelIdeal.cc0_scratch1 : Memref Cert.KernelIdeal.sig Kind.scVector Space.vmem Cert.KernelIdeal.S32 EltTy.f32)
local notation "idxV" => (Memref.whole Cert.KernelIdeal.cc0_scratch2 : Memref Cert.KernelIdeal.sig Kind.scVector Space.vmem Cert.KernelIdeal.S128 EltTy.i32)
local notation "rowV" => (Memref.whole Cert.KernelIdeal.cc0_scratch3 : Memref Cert.KernelIdeal.sig Kind.scVector Space.vmem Cert.KernelIdeal.S128x128 EltTy.f32)
local notation "accV" => (Memref.whole Cert.KernelIdeal.cc0_scratch4 : Memref Cert.KernelIdeal.sig Kind.scVector Space.vmem Cert.KernelIdeal.S1024 EltTy.f32)

variable (m : (ℓ : Loc nD τ sig) → Buf (Elt F) ℓ) (ρ : Dev nD → PrngReg)

/-! ## What the handshakes carry -/

/-- Tile `i` of SparseCore `c`'s share of the call's arrays, the output at `O`. -/
def go (d : Dev nD) (O : S8192x1024.Idx → F .f32) (c : Fin 2) (i : Fin 16) : sProp 𝕄 :=
  tileShare d (tabOf (m (featLoc d))) (linOf (m (lineLoc d))) posOf O (tileNo c i)

/-- A tile's share may be kept in an invariant. -/
instance go_storable (d : Dev nD) (O : S8192x1024.Idx → F .f32) (c : Fin 2) (i : Fin 16) : BI.Storable (upEmb : UEmb _ 𝕄) (go m d O c i) := by
  unfold go tileShare tileArrays
  infer_instance

/-- The output the call leaves. -/
def outDone (d : Dev nD) : S8192x1024.Idx → F .f32 := outOf (tabOf (m (featLoc d))) (linOf (m (lineLoc d))) posOf

/-- A SparseCore takes its sixteen tiles' shares and brings them back, the output's blocks written. -/
def P : (K (F := F)).Pay (nD := nD) (Val := Elt F) (Name := ℕ) (U := UU) where
  st := fun q d c => match q with | 0 => bigSep Finset.univ fun i : Fin 16 => go m d (m (outLoc d)) (Fin.cast nCore_zero c) i
  dn := fun q d c => match q with | 0 => bigSep Finset.univ fun i : Fin 16 => go m d (outDone m d) (Fin.cast nCore_zero c) i
  go := fun q d c i => match q with | 0 => go m d (m (outLoc d)) (Fin.cast nCore_zero c) (Fin.cast nSub_zero i)
  td := fun q d c i => match q with | 0 => go m d (outDone m d) (Fin.cast nCore_zero c) (Fin.cast nSub_zero i)
  x := fun _ _ => iprop(emp)

/-- So may everything the handshakes carry. -/
instance P_storable : (P (F := F) m).IsStorable where
  st q d c := match q with
    | 0 => (inferInstance : BI.Storable (upEmb : UEmb _ 𝕄) (bigSep Finset.univ fun i : Fin 16 => go m d (m (outLoc d)) (Fin.cast nCore_zero c) i))
  dn q d c := match q with
    | 0 => (inferInstance : BI.Storable (upEmb : UEmb _ 𝕄) (bigSep Finset.univ fun i : Fin 16 => go m d (outDone m d) (Fin.cast nCore_zero c) i))
  go q d c i := match q with
    | 0 => (inferInstance : BI.Storable (upEmb : UEmb _ 𝕄) (go m d (m (outLoc d)) (Fin.cast nCore_zero c) (Fin.cast nSub_zero i)))
  td q d c i := match q with
    | 0 => (inferInstance : BI.Storable (upEmb : UEmb _ 𝕄) (go m d (outDone m d) (Fin.cast nCore_zero c) (Fin.cast nSub_zero i)))

/-! ## The tiles' obligation -/

/-- The coordinates of a tile. -/
def coordsV (c : Fin (grid0.bound 0)) (s : Fin (grid0.bound 1)) : grid0.Coords :=
  fun | 0 => c | 1 => s | ⟨_ + 2, h⟩ => absurd h (Nat.not_lt.2 (Nat.le_add_left _ _))

/-- What a tile runs: the kernel's body at its coordinates. -/
theorem defs₀_vector (c : Fin τ.nSC) (s : Fin τ.nSub) :
    defs₀ (F := F) (.scVector c s) 0 ()
      = SparseCore.onTile hcore0 hsub0 (fun c s => cc0__sc_body (F := F) (coordsV c s)
          tabV (Memref.isWhole_whole _) linV (Memref.isWhole_whole _) cstV (Memref.isWhole_whole _) outV (Memref.isWhole_whole _)
            lnsV (Memref.isWhole_whole _) tspV (Memref.isWhole_whole _) idxV (Memref.isWhole_whole _) rowV (Memref.isWhole_whole _) accV (Memref.isWhole_whole _)
            cc0_scratch5 cc0_scratch6 cc0_scoped0 cc0_scoped1 cc0_scoped2) ⟨⟩ c s := rfl

/-- Waits at no call's index are among those a task may record. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (leaf 5 fullShare (tileNo (Fin.cast nCore_zero c) (Fin.cast nSub_zero i)))
    (tabOf (m (featLoc d))) (linOf (m (lineLoc d))) posOf (m (outLoc d)) O W hO).trans (wp_mono frame _ _ fun _ => waits_weaken)

/-- A SparseCore's sixteen shares are its tiles'. -/
theorem vecSplit : (K (F := F)).VecSplit' (P m) 0 := by
  intro d c
  show (bigSep Finset.univ fun i : Fin 16 => go m d (m (outLoc d)) (Fin.cast nCore_zero c) i) ⊢ |={Set.univ}=> iprop(
      (bigSep Finset.univ fun i : Fin 16 => go m d (m (outLoc d)) (Fin.cast nCore_zero c) i)
      ∗ ((bigSep Finset.univ fun i : Fin 16 => go m d (outDone m d) (Fin.cast nCore_zero c) i)
          -∗ (bigSep Finset.univ fun i : Fin 16 => go m d (outDone m d) (Fin.cast nCore_zero c) i)))
  iintro H; imodintro
  isplitl [H]; · iexact H
  iintro H; iexact H

/-! ## The launch's ghost state -/

/-- The ghost state the launch starts from. -/
def u₀ : UU := (initOf (K (F := F)).hsCells (K (F := F)).hsToks, 1)

/-- It gives the handshakes their part and nothing else is needed. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have none_left {I : Type} (s : Finset I) : (bigSep s fun _ => iprop(emp)) = (iprop(emp) : sProp 𝕄) := bigSep_emp_const s
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [none_left]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), none_left]
  iempintro

/-! ## The host's program -/

/-- All the host's arrays. -/
abbrev arrays : Finset (DevRef τ sig) := Pipeline.ucRefs τ sig

/-- The call's four arrays. -/
abbrev callRefs : Finset (DevRef τ sig) := {host main_v1, host main_v2, host main_cst, host main_v3}

/-- The call's arrays are the host's. -/
theorem callRefs_sub : callRefs ⊆ arrays := by decide

/-- The call's arrays out of the host's. -/
theorem held_call (d : Dev nD) (W : Valuation τ sig (Elt F)) :
    (held (SparseCore.T d) callRefs W : sProp 𝕄) = callArrays d (W (host main_v1)) (W (host main_v2)) (W (host main_cst)) (W (host main_v3)) := by
  unfold held callArrays
  rw [SparseCore.bigSep_insert' (by decide), SparseCore.bigSep_insert' (by decide), SparseCore.bigSep_insert' (by decide), bigSep_singleton]

/-- What the SparseCores take is the call's arrays. -/
theorem st_eq (d : Dev nD) : (bigSep Finset.univ fun c : Fin ((K (F := F)).nCore 0) => (P m).st 0 d c)
    = callArrays d (tabOf (m (featLoc d))) (linOf (m (lineLoc d))) posOf (m (outLoc d)) := by
  rw [callArrays_tiles, tiles_cores]
  rfl

/-- What they bring back is the same arrays, the output written. -/
theorem dn_eq (d : Dev nD) : (bigSep Finset.univ fun c : Fin ((K (F := F)).nCore 0) => (P m).dn 0 d c)
    = callArrays d (tabOf (m (featLoc d))) (linOf (m (lineLoc d))) posOf (outDone m d) := by
  rw [callArrays_tiles, tiles_cores]
  rfl

/-- Before the call: its arrays at what the host computed, and the rest. -/
theorem held_before (d : Dev nD) : (held (SparseCore.T d) arrays (V1 m d) : sProp 𝕄)
    = iprop(callArrays d (tabOf (m (featLoc d))) (linOf (m (lineLoc d))) posOf (m (outLoc d)) ∗ held (SparseCore.T d) (arrays \ callRefs) (V1 m d)) := by
  rw [StableHlo.held_sub_split _ callRefs_sub, held_call, V1_table, V1_lines, V1_positions, V1_out]

/-- After it: the output at the pooled lines. -/
theorem held_after (d : Dev nD) : (held (SparseCore.T d) arrays (V2 m d) : sProp 𝕄)
    = iprop(callArrays d (tabOf (m (featLoc d))) (linOf (m (lineLoc d))) posOf (outDone m d) ∗ held (SparseCore.T d) (arrays \ callRefs) (V1 m d)) := by
  have ne {b : DevRef τ sig} (h : b ≠ host main_v3) : V2 m d b = V1 m d b := Function.update_of_ne h _ _
  rw [StableHlo.held_sub_split _ callRefs_sub, held_call, ne (b := host main_v1) (by decide), ne (b := host main_v2) (by decide),
    ne (b := host main_cst) (by decide), V1_table, V1_lines, V1_positions, show V2 m d (host main_v3) = outDone m d from Function.update_self _ _ _,
    StableHlo.held_congr (V := V2 m d) (V' := V1 m d) _ fun b hb => ne fun e => (Finset.mem_sdiff.mp hb).2 (e ▸ by decide)]

/-- The operations before the call work on the host's arrays. -/
theorem before_bufs : ∀ op ∈ opsBefore (F := F), op.bufs ⊆ arrays := by
  intro op h
  simp only [opsBefore, List.mem_cons, List.not_mem_nil, or_false] at h
  rcases h with rfl | rfl | rfl | rfl
  · exact show ({host main_cst} : Finset (DevRef τ sig)) ⊆ arrays by decide
  · exact show ({host main_arg0, host main_v0} : Finset (DevRef τ sig)) ⊆ arrays by decide
  · exact show ({host main_v0, host main_v1} : Finset (DevRef τ sig)) ⊆ arrays by decide
  · exact show ({host main_arg1, host main_v2} : Finset (DevRef τ sig)) ⊆ arrays by decide

/-- So do the operations after it. -/
theorem after_bufs : ∀ op ∈ opsAfter (F := F), op.bufs ⊆ arrays := by
  intro op h
  simp only [opsAfter, List.mem_cons, List.not_mem_nil, or_false] at h
  rcases h with rfl | rfl | rfl
  · exact show ({host main_v3, host main_v4} : Finset (DevRef τ sig)) ⊆ arrays by decide
  · exact show ({host main_v4, host main_v5} : Finset (DevRef τ sig)) ⊆ arrays by decide
  · exact show ({host main_v5, host main_v6} : Finset (DevRef τ sig)) ⊆ arrays by decide

/-- No operation before the call makes a new array. -/
theorem before_fresh : ∀ op ∈ opsBefore (F := F), op.fresh = ∅ := by
  intro op h
  simp only [opsBefore, List.mem_cons, List.not_mem_nil, or_false] at h
  rcases h with rfl | rfl | rfl | rfl <;> rfl

/-- Nor does one after it. -/
theorem after_fresh : ∀ op ∈ opsAfter (F := F), op.fresh = ∅ := by
  intro op h
  simp only [opsAfter, List.mem_cons, List.not_mem_nil, or_false] at h
  rcases h with rfl | rfl | rfl <;> rfl

/-- The host's program: a line of operations, the call, a line of operations. -/
theorem main_eq (d : Dev nD) : main (F := F) d
    = (seq opsBefore >>= fun _ => ((K (F := F)).run d 0 >>= fun _ => (seq opsAfter >>= fun _ => pure ⟨⟩))) := by
  simp only [opsBefore, opsAfter, seq, bind_assoc, pure_bind]
  rfl

/-- What the host's program leaves: all its arrays, at the contents of the end. -/
abbrev FIN (d : Dev nD) : sProp 𝕄 := held (SparseCore.T d) arrays (V3 m d)

/-- The host's program runs to the end and leaves its arrays at the contents of the end. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) arrays (V0 m d) from
    Pipeline.unscopedBufs_held d (V0 m d), main_eq]
  iintro ⟨#Hctx, Hst, ⟨Hb, Hheld, Hts, -⟩, -⟩
  iapply (StableHlo.wp_seq 𝒱 none Set.univ d arrays _ opsBefore before_bufs before_fresh (V0 m d)) $$ [Hb Hheld]
  · isplitl [Hb] <;> iassumption
  iintro ⟨Hb, Hheld⟩
  ihave Hh := (Entails.of_eq (show (held d.tc arrays (after opsBefore (V0 m d)) : sProp 𝕄) = _ from held_before m d)) $$ Hheld
  icases Hh with ⟨Hcall, Hrest⟩
  rw [wp_bind]
  iapply ((K (F := F)).wp_run (D (F := F)) 𝒱 (EH := EH) (P := P m) κ d 0) $$ [Hst Hcall Hrest Hb Hts]
  isplitr; · iexact Hctx
  isplitl [Hst]; · iexact Hst
  isplitl [Hcall]
  · rw [st_eq]; iexact Hcall
  iintro ⟨Hst, Hdn⟩
  ihave Hcall := (Entails.of_eq (dn_eq m d)) $$ Hdn
  ihave Hheld := (Entails.of_eq (held_after m d).symm) $$ [Hcall Hrest]
  · isplitl [Hcall] <;> iassumption
  iapply (StableHlo.wp_seq 𝒱 none Set.univ d arrays _ opsAfter after_bufs after_fresh (V2 m d)) $$ [Hb Hheld]
  · isplitl [Hb] <;> iassumption
  iintro ⟨Hb, Hheld⟩
  rw [wp_pure]; imodintro
  isplitl [Hst]; · iexact Hst
  isplitl [Hheld]; · iexact Hheld
  isplitl [Hb] <;> iassumption

/-! ## The end -/

/-- What device `d`'s arrays hold at the end: the arguments as they were, the result at the pooled lines. -/
def fq (d : Dev nD) (s' : Phys nD τ sig (Elt F)) : Prop :=
  s'.mem.mem (featLoc d) = m (featLoc d) ∧ s'.mem.mem (lineLoc d) = m (lineLoc d)
    ∧ s'.mem.mem (resLoc d) = kernelOf (m (featLoc d)) (m (lineLoc d))

/-- The arrays the claims speak of. -/
abbrev endRefs : Finset (DevRef τ sig) := {host main_arg0, host main_arg1, host main_v6}

/-- Those arrays at the end: the two arguments as they were, the result at the program's function of them. -/
theorem held_end (d : Dev nD) : (held (SparseCore.T d) endRefs (V3 m d) : sProp 𝕄)
    = iprop((featLoc d ↦{fullShare} m (featLoc d)) ∗ (lineLoc d ↦{fullShare} m (lineLoc d))
        ∗ (resLoc d ↦{fullShare} (kernelOf (m (featLoc d)) (m (lineLoc d)) : Buf (Elt F) (resLoc d)))) := by
  unfold held
  rw [SparseCore.bigSep_insert' (by decide), SparseCore.bigSep_insert' (by decide), bigSep_singleton, V3_features, V3_line, V3_result]

set_option maxRecDepth 16384 in
theorem hfin (d : Dev nD) (s' : Phys nD τ sig (Elt F)) : iprop(FIN m d ∗ SI s') ⊢ (⌜fq m d s'⌝ : sProp 𝕄) := by
  rw [show FIN m d = held (SparseCore.T d) arrays (V3 m d) from rfl,
    StableHlo.held_sub_split _ (show endRefs ⊆ arrays by decide), held_end]
  iintro ⟨⟨⟨Hf, Hl, Hr⟩, -⟩, HSI⟩
  ihave H := (persistent_entails_right (SI_pointsTo_agree (st := s') (ℓ := featLoc d) (I := Finset.univ) (q := fullShare) (f := m (featLoc d)))) $$ [HSI Hf]
  · isplitl [HSI] <;> iassumption
  icases H with ⟨%h1, HSI, -⟩
  ihave H := (persistent_entails_right (SI_pointsTo_agree (st := s') (ℓ := lineLoc d) (I := Finset.univ) (q := fullShare) (f := m (lineLoc d)))) $$ [HSI Hl]
  · isplitl [HSI] <;> iassumption
  icases H with ⟨%h2, HSI, -⟩
  ihave H := (SI_pointsTo_agree (st := s') (ℓ := resLoc d) (I := Finset.univ) (q := fullShare)
    (f := (kernelOf (m (featLoc d)) (m (lineLoc d)) : Buf (Elt F) (resLoc d)))) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-- What the whole run leaves, on every device, and every counter at zero. -/
def QC : PUnit × MemSt nD τ sig (Elt F) → Prop := fun r =>
  (∀ c : Dev nD, r.2.mem (featLoc c) = m (featLoc c) ∧ r.2.mem (lineLoc c) = m (lineLoc c)
      ∧ r.2.mem (resLoc c) = kernelOf (m (featLoc c)) (m (lineLoc c)))
    ∧ r.2.sem = fun _ => 0

/-- The whole program, from any memory with its counters at zero, over any float values: it stops, with its arguments as they
    were, its result at the pooled lines, and its counters at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Sample

end
-- ==== Proof.Grid.lean ====
/-
  The grid coordinates around a position, over the extended reals: the kernel takes the integer part and keeps it within
  the grid, the reference rounds down, keeps the number within the grid and takes its integer part. They are one number.
-/
module

public import proofs.«01_k».proof.Proof.Spec
public import Idealize.ShloMosaic.PureOps.Ideal

@[expose] public section

noncomputable section

namespace Cert.Proof.Sample

open Idealize.ShloMosaic

/-- The lower grid coordinate as the reference takes it: rounded down and kept within `0` and `127`. -/
def low (p : EReal) : EReal := min 127 (max 0 (Ideal.liftRound Int.floor p))

/-- The upper one: the lower plus one, kept within `0` and `127`. -/
def high (p : EReal) : EReal := min 127 (max 0 (low p + 1))

/-- The larger of two words, read as a signed number. -/
theorem toInt_maxsi (x y : BitVec 32) : (IntOp.maxsi x y).toInt = max x.toInt y.toInt := by
  unfold IntOp.maxsi
  split
  · rename_i h; rw [BitVec.slt_iff_toInt_lt] at h; omega
  · rename_i h; rw [BitVec.slt_iff_toInt_lt] at h; omega

/-- The smaller of two words, read as a signed number. -/
theorem toInt_minsi (x y : BitVec 32) : (IntOp.minsi x y).toInt = min x.toInt y.toInt := by
  unfold IntOp.minsi
  split
  · rename_i h; rw [BitVec.slt_iff_toInt_lt] at h; omega
  · rename_i h; rw [BitVec.slt_iff_toInt_lt] at h; omega

/-- A number from `0` to `127` written as a word is read back. -/
theorem toInt_small (k : ℕ) (h : k ≤ 127) : (BitVec.ofNat 32 k).toInt = k := by
  rw [BitVec.toInt_eq_toNat_cond, BitVec.toNat_ofNat, Nat.mod_eq_of_lt (by omega), if_pos (by omega)]

/-- The word of an integer within the 32-bit range is read back. -/
theorem toInt_ofInt (z : ℤ) (h1 : -2147483648 ≤ z) (h2 : z ≤ 2147483647) : (BitVec.ofInt 32 z).toInt = z := by
  rw [BitVec.toInt_ofInt]
  exact Int.bmod_eq_of_le (by norm_num; omega) (by norm_num; omega)

/-- The word of a number from `0` to `127`, read as a number and cut to a word, is that word. -/
theorem fptosi_small (k : ℕ) (h : k ≤ 127) : FloatOps.fptosi (F := Ideal) (φ := .f32) 32 ((k : ℝ) : EReal) = BitVec.ofNat 32 k := by
  apply BitVec.eq_of_toInt_eq
  rw [toInt_small k h]
  show (BitVec.ofInt 32 (Ideal.toIntClamped _ _ ((k : ℝ) : EReal))).toInt = k
  rw [Ideal.toIntClamped_coe, if_pos (Nat.cast_nonneg k), Int.floor_natCast, toInt_ofInt]
  all_goals norm_num
  all_goals omega

/-- The kernel's word and the reference's number for the lower coordinate are one number from `0` to `127`. -/
theorem lower (p : EReal) : ∃ k : ℕ, k ≤ 127 ∧ lo (F := Ideal) p = BitVec.ofNat 32 k ∧ low p = ((k : ℝ) : EReal) := by
  have key : ∀ z : ℤ, -2147483648 ≤ z → z ≤ 2147483647 → FloatOps.fptosi (F := Ideal) (φ := .f32) 32 p = BitVec.ofInt 32 z →
      ∀ k : ℕ, (k : ℤ) = min 127 (max 0 z) → lo (F := Ideal) p = BitVec.ofNat 32 k := by
    intro z h1 h2 e k hk
    apply BitVec.eq_of_toInt_eq
    rw [toInt_small k (by omega)]
    unfold lo
    rw [toInt_minsi, toInt_maxsi, e, toInt_ofInt z h1 h2, hk]
    rfl
  induction p with
  | bot =>
    refine ⟨0, by omega, key (-2147483648) (by omega) (by omega) ?_ 0 (by norm_num), ?_⟩
    · show BitVec.ofInt 32 (Ideal.toIntClamped _ _ ⊥) = _
      rw [Ideal.toIntClamped_bot]; norm_num
    · unfold low; rw [Ideal.liftRound_bot]; norm_num
  | top =>
    refine ⟨127, by omega, key 2147483647 (by omega) (by omega) ?_ 127 (by norm_num), ?_⟩
    · show BitVec.ofInt 32 (Ideal.toIntClamped _ _ ⊤) = _
      rw [Ideal.toIntClamped_top]; norm_num
    · unfold low; rw [Ideal.liftRound_top, max_eq_right le_top, min_eq_left le_top]; rfl
  | coe r =>
    refine ⟨(min 127 (max 0 ⌊r⌋)).toNat, by omega,
      key (max (-2147483648) (min 2147483647 (if 0 ≤ r then ⌊r⌋ else ⌈r⌉))) (by omega) (by omega) ?_ _ ?_, ?_⟩
    · show BitVec.ofInt 32 (Ideal.toIntClamped _ _ (r : EReal)) = _
      rw [Ideal.toIntClamped_coe]; norm_num
    · rw [Int.toNat_of_nonneg (by omega)]
      split
      · omega
      · rename_i h
        have h1 : ⌊r⌋ ≤ 0 := Int.floor_nonpos (by linarith)
        have h2 : ⌈r⌉ ≤ 0 := Int.ceil_le.2 (by push_cast; linarith)
        omega
    · unfold low
      rw [Ideal.liftRound_coe]
      have e : (((min 127 (max 0 ⌊r⌋)).toNat : ℕ) : ℝ) = min 127 (max 0 (⌊r⌋ : ℝ)) := by
        have : (((min 127 (max 0 ⌊r⌋)).toNat : ℕ) : ℤ) = min 127 (max 0 ⌊r⌋) := Int.toNat_of_nonneg (by omega)
        rw [← Int.cast_natCast, this]; push_cast; rfl
      rw [e, EReal.coe_strictMono.monotone.map_min, EReal.coe_strictMono.monotone.map_max]
      rfl

/-- The number of the kernel's lower coordinate is the reference's. -/
theorem sitofp_lo (p : EReal) : FloatOps.sitofp (F := Ideal) .f32 (lo (F := Ideal) p) = low p := by
  obtain ⟨k, hk, e1, e2⟩ := lower p
  rw [e1, e2]
  show (((BitVec.ofNat 32 k).toInt : ℝ) : EReal) = _
  rw [toInt_small k hk]; norm_num

/-- The reference's lower coordinate cut to a word is the kernel's. -/
theorem fptosi_low (p : EReal) : FloatOps.fptosi (F := Ideal) (φ := .f32) 32 (low p) = lo (F := Ideal) p := by
  obtain ⟨k, hk, e1, e2⟩ := lower p
  rw [e1, e2, fptosi_small k hk]

/-- The kernel's word and the reference's number for the upper coordinate are one number from `0` to `127`. -/
theorem upper (p : EReal) : ∃ k : ℕ, k ≤ 127 ∧ hi (F := Ideal) p = BitVec.ofNat 32 k ∧ high p = ((k : ℝ) : EReal) := by
  obtain ⟨k, hk, e1, e2⟩ := lower p
  refine ⟨min (k + 1) 127, by omega, ?_, ?_⟩
  · apply BitVec.eq_of_toNat_eq
    rw [toNat_hi, e1, BitVec.toNat_ofNat, BitVec.toNat_ofNat]
    omega
  · unfold high
    rw [e2]
    have e : ((min (k + 1) 127 : ℕ) : ℝ) = min 127 (max 0 ((k : ℝ) + 1)) := by
      rw [max_eq_right (by positivity), min_comm]; push_cast; rfl
    rw [e, EReal.coe_strictMono.monotone.map_min, EReal.coe_strictMono.monotone.map_max]
    rfl

/-- The number of the kernel's upper coordinate is the reference's. -/
theorem sitofp_hi (p : EReal) : FloatOps.sitofp (F := Ideal) .f32 (hi (F := Ideal) p) = high p := by
  obtain ⟨k, hk, e1, e2⟩ := upper p
  rw [e1, e2]
  show (((BitVec.ofNat 32 k).toInt : ℝ) : EReal) = _
  rw [toInt_small k hk]; norm_num

/-- The reference's upper coordinate cut to a word is the kernel's. -/
theorem fptosi_high (p : EReal) : FloatOps.fptosi (F := Ideal) (φ := .f32) 32 (high p) = hi (F := Ideal) p := by
  obtain ⟨k, hk, e1, e2⟩ := upper p
  rw [e1, e2, fptosi_small k hk]

/-- The kernel's lower word is not negative. -/
theorem toInt_lo (p : EReal) : (lo (F := Ideal) p).toInt = ((lo (F := Ideal) p).toNat : ℤ) := by
  have h := lo_le (F := Ideal) p
  rw [BitVec.toInt_eq_toNat_cond, if_pos (by omega)]

/-- Nor is its upper word. -/
theorem toInt_hi (p : EReal) : (hi (F := Ideal) p).toInt = ((hi (F := Ideal) p).toNat : ℤ) := by
  have h := hi_le (F := Ideal) p
  rw [BitVec.toInt_eq_toNat_cond, if_pos (by omega)]

end Cert.Proof.Sample

end
-- ==== Proof.RefValue.lean ====
/-
  What the reference ends with, read one element at a time.
-/
module

public import proofs.«01_k».proof.Proof.Gen.ReferenceIdeal.Run
public import proofs.«01_k».proof.Proof.Grid
public import Idealize.ShloMosaic.Lib.Pointwise
public import Idealize.ShloMosaic.Lib.ValueIdx

@[expose] public section

noncomputable section

namespace Cert.Proof.Sample

open Cert.ReferenceIdeal Cert.ReferenceIdeal.Gen Cert.ReferenceIdeal.Value
open Idealize.ShloMosaic

local notation "Vals" => Valuation Cert.ReferenceIdeal.τ Cert.ReferenceIdeal.sig (Elt Ideal)

/-- The feature map the reference starts from. -/
def refMap (W : Vals) : S128x128x128.Idx → EReal := W (Proc.devRef .tc main_arg0)

/-- The lines the reference starts from. -/
def refLines (W : Vals) : S8192x4.Idx → EReal := W (Proc.devRef .tc main_arg1)

/-- The position of sample `s`. -/
def refPos (s : Fin 32) : EReal := FloatOps.ofBits (F := Ideal) .f32 (lit0 (S32.rowMajor (ix1 s)))

/-- Coordinate `k` of sample `s` of line `L`. -/
theorem v17_apply (W : Vals) (L : Fin 8192) (s : Fin 32) (k : Fin 2) :
    res_main_v17 W (ix2 (⟨32 * L.val + s.val, by omega⟩ : Fin 262144) k)
      = coord (F := Ideal) (refLines W (ix2 L (⟨k.val, by omega⟩ : Fin 4))) (refLines W (ix2 L (⟨k.val + 2, by omega⟩ : Fin 4))) (refPos s) := by
  unfold res_main_v17 res_main_v0 coord refLines refPos
  pointwise
  rw [show (⟨2 + k.val, _⟩ : Fin 4) = ⟨k.val + 2, by omega⟩ from Fin.ext (Nat.add_comm _ _)]

/-- The horizontal coordinates are the first of the two columns. -/
theorem v19_apply (W : Vals) (n : Fin 262144) : res_main_v19 W (ix1 n) = res_main_v17 W (ix2 n (0 : Fin 2)) := by
  unfold res_main_v19
  pointwise

/-- The vertical ones are the second. -/
theorem v21_apply (W : Vals) (n : Fin 262144) : res_main_v21 W (ix1 n) = res_main_v17 W (ix2 n (1 : Fin 2)) := by
  unfold res_main_v21
  pointwise

/-- The word `127` as a number. -/
theorem sitofp_127 : FloatOps.sitofp (F := Ideal) .f32 127#32 = 127 := by
  show (((127#32 : BitVec 32).toInt : ℝ) : EReal) = 127
  rw [show (127#32 : BitVec 32).toInt = 127 from by decide]; norm_num; rfl

/-- The word `0` as a number. -/
theorem sitofp_0 : FloatOps.sitofp (F := Ideal) .f32 0#32 = 0 := by
  show (((0#32 : BitVec 32).toInt : ℝ) : EReal) = 0
  rw [show (0#32 : BitVec 32).toInt = 0 from by decide]; norm_num

/-- The lower horizontal grid coordinates. -/
theorem v23_apply (W : Vals) (i : S262144.Idx) : res_main_v23 W i = low (res_main_v19 W i) := by
  unfold res_main_v23 low
  pointwise
  rw [sitofp_127, sitofp_0]

/-- The lower vertical ones. -/
theorem v25_apply (W : Vals) (i : S262144.Idx) : res_main_v25 W i = low (res_main_v21 W i) := by
  unfold res_main_v25 low
  pointwise
  rw [sitofp_127, sitofp_0]

/-- The upper horizontal ones. -/
theorem v28_apply (W : Vals) (i : S262144.Idx) : res_main_v28 W i = high (res_main_v19 W i) := by
  unfold res_main_v28 high
  pointwise
  rw [sitofp_127, sitofp_0, v23_apply]

/-- The upper vertical ones. -/
theorem v31_apply (W : Vals) (i : S262144.Idx) : res_main_v31 W i = high (res_main_v21 W i) := by
  unfold res_main_v31 high
  pointwise
  rw [sitofp_127, sitofp_0, v25_apply]

/-- The words of the lower horizontal grid coordinates are the kernel's. -/
theorem v32_apply (W : Vals) (i : S262144.Idx) : res_main_v32 W i = lo (F := Ideal) (res_main_v19 W i) := by
  rw [← fptosi_low, ← v23_apply]; rfl

/-- Those of the lower vertical ones. -/
theorem v33_apply (W : Vals) (i : S262144.Idx) : res_main_v33 W i = lo (F := Ideal) (res_main_v21 W i) := by
  rw [← fptosi_low, ← v25_apply]; rfl

/-- Those of the upper horizontal ones. -/
theorem v34_apply (W : Vals) (i : S262144.Idx) : res_main_v34 W i = hi (F := Ideal) (res_main_v19 W i) := by
  rw [← fptosi_high, ← v28_apply]; rfl

/-- Those of the upper vertical ones. -/
theorem v35_apply (W : Vals) (i : S262144.Idx) : res_main_v35 W i = hi (F := Ideal) (res_main_v21 W i) := by
  rw [← fptosi_high, ← v31_apply]; rfl

/-- A gathered element is the feature map's at the two words of its column, each kept within the grid. -/
theorem gather_apply (x : S128x128x128.Idx → EReal) (idx : IVec S262144x2 32) (c : Fin 128) (n : Fin 262144) :
    Host.gather gather_S128x128x128_S262144x2_S128x262144_0_12_n_n_12_1_12811 x idx (ix2 c n)
      = x (ix3 c (⟨min (idx (ix2 n (0 : Fin 2))).toInt.toNat 127, by omega⟩ : Fin 128)
            (⟨min (idx (ix2 n (1 : Fin 2))).toInt.toNat 127, by omega⟩ : Fin 128)) := by
  unfold Host.gather
  refine congrArg x (funext fun a => Fin.ext ?_)
  match a with
  | ⟨0, _⟩ => show 0 + 0 + c.val = c.val; omega
  | ⟨1, _⟩ =>
    show min (idx _).toInt.toNat _ + _ + _ = min _ _
    have e : ∀ q : S262144x2.Idx, q = ix2 n (0 : Fin 2) → min (idx q).toInt.toNat 127 + 0 + 0 = min (idx (ix2 n (0 : Fin 2))).toInt.toNat 127 := by
      rintro q rfl; rfl
    refine e _ (funext fun b => Fin.ext ?_)
    match b with
    | ⟨0, _⟩ => rfl
    | ⟨1, _⟩ => rfl
  | ⟨2, _⟩ =>
    show min (idx _).toInt.toNat _ + _ + _ = min _ _
    have e : ∀ q : S262144x2.Idx, q = ix2 n (1 : Fin 2) → min (idx q).toInt.toNat 127 + 0 + 0 = min (idx (ix2 n (1 : Fin 2))).toInt.toNat 127 := by
      rintro q rfl; rfl
    refine e _ (funext fun b => Fin.ext ?_)
    match b with
    | ⟨0, _⟩ => rfl
    | ⟨1, _⟩ => rfl

/-- The wrap-around of negative words leaves a word from `0` to `127` as it is. -/
theorem wrap_word (w : BitVec 32) (h : w.toNat ≤ 127) :
    Scalar.select (IntOp.cmpi .slt w 0#32) (IntOp.addi w 128#32) w = w := by
  have e : w.slt 0#32 = false := by
    rw [Bool.eq_false_iff, ne_eq, BitVec.slt_iff_toInt_lt, BitVec.toInt_eq_toNat_cond, if_pos (by omega)]
    simp
  unfold IntOp.cmpi Scalar.select
  simp [e]

/-- Read as a signed number and kept at most `127` it is its value. -/
theorem clamp_word (w : BitVec 32) (h : w.toNat ≤ 127) : min w.toInt.toNat 127 = w.toNat := by
  rw [BitVec.toInt_eq_toNat_cond, if_pos (by omega)]
  omega

/-- The feature map at the grid point two vectors of words name. -/
theorem cell_apply (x : S128x128x128.Idx → EReal) (b a : IVec S262144 32) (c : Fin 128) (n : Fin 262144)
    (hb : (b (ix1 n)).toNat ≤ 127) (ha : (a (ix1 n)).toNat ≤ 127) :
    Host.gather gather_S128x128x128_S262144x2_S128x262144_0_12_n_n_12_1_12811 x
      (concatenate S262144x2 1
        [⟨S262144x1, broadcastInDim S262144x1 ![0] bcast_S262144_S262144x1_0
            (select (cmpi .slt b (broadcastInDim S262144 ![] bcast_S_S262144 (constantI S_ 32 0#32)))
              (addi b (broadcastInDim S262144 ![] bcast_S_S262144 (constantI S_ 32 128#32))) b)⟩,
         ⟨S262144x1, broadcastInDim S262144x1 ![0] bcast_S262144_S262144x1_0
            (select (cmpi .slt a (broadcastInDim S262144 ![] bcast_S_S262144 (constantI S_ 32 0#32)))
              (addi a (broadcastInDim S262144 ![] bcast_S_S262144 (constantI S_ 32 128#32))) a)⟩]
        concatenates_S262144x1_S262144x1_S262144x2_d1) (ix2 c n)
      = x (ix3 c (⟨(b (ix1 n)).toNat, by omega⟩ : Fin 128) (⟨(a (ix1 n)).toNat, by omega⟩ : Fin 128)) := by
  rw [gather_apply]
  pointwise
  simp only [wrap_word _ hb, wrap_word _ ha, clamp_word _ hb, clamp_word _ ha]

/-- The reference's interpolated feature `c` at a sample with coordinates `p` and `q`, from a feature's value at a grid
    point (the row's word first). -/
def refTap (cell : BitVec 32 → BitVec 32 → EReal) (p q : EReal) : EReal :=
  cell (lo (F := Ideal) q) (lo (F := Ideal) p) * (high q - q) * (high p - p)
    + cell (hi (F := Ideal) q) (lo (F := Ideal) p) * (q - low q) * (high p - p)
    + cell (lo (F := Ideal) q) (hi (F := Ideal) p) * (high q - q) * (p - low p)
    + cell (hi (F := Ideal) q) (hi (F := Ideal) p) * (q - low q) * (p - low p)

/-- The feature map at a grid point given by two words. -/
def cellOf (x : S128x128x128.Idx → EReal) (c : Fin 128) (b a : BitVec 32) : EReal :=
  x (ix3 c (⟨b.toNat % 128, by omega⟩ : Fin 128) (⟨a.toNat % 128, by omega⟩ : Fin 128))

/-- For words within the grid no remainder is taken. -/
theorem cellOf_eq (x : S128x128x128.Idx → EReal) (c : Fin 128) (b a : BitVec 32) (hb : b.toNat ≤ 127) (ha : a.toNat ≤ 127) :
    x (ix3 c (⟨b.toNat, by omega⟩ : Fin 128) (⟨a.toNat, by omega⟩ : Fin 128)) = cellOf x c b a := by
  unfold cellOf
  congr 2 <;> exact Fin.ext (Nat.mod_eq_of_lt (by omega)).symm

/-- The gathered feature at a sample, for either coordinate's two words. -/
theorem v126_apply (W : Vals) (c : Fin 128) (n : Fin 262144) :
    res_main_v126 W (ix2 c n) = refTap (cellOf (refMap W) c) (res_main_v19 W (ix1 n)) (res_main_v21 W (ix1 n)) := by
  have h1 : (res_main_v32 W (ix1 n)).toNat ≤ 127 := by rw [v32_apply]; exact lo_le _
  have h2 : (res_main_v33 W (ix1 n)).toNat ≤ 127 := by rw [v33_apply]; exact lo_le _
  have h3 : (res_main_v34 W (ix1 n)).toNat ≤ 127 := by rw [v34_apply]; exact hi_le _
  have h4 : (res_main_v35 W (ix1 n)).toNat ≤ 127 := by rw [v35_apply]; exact hi_le _
  unfold res_main_v126
  pointwise
  rw [cell_apply _ _ _ c n h2 h1, cell_apply _ _ _ c n h4 h1, cell_apply _ _ _ c n h2 h3, cell_apply _ _ _ c n h4 h3,
    cellOf_eq (W (Proc.devRef .tc main_arg0)) c _ _ h2 h1, cellOf_eq (W (Proc.devRef .tc main_arg0)) c _ _ h4 h1,
    cellOf_eq (W (Proc.devRef .tc main_arg0)) c _ _ h2 h3, cellOf_eq (W (Proc.devRef .tc main_arg0)) c _ _ h4 h3]
  rw [v32_apply, v33_apply, v34_apply, v35_apply, v23_apply, v25_apply, v28_apply, v31_apply]
  rfl

/-- The word `FloatOps` reads `-∞` from is the least extended real. -/
theorem ofBits_bot : Ideal.ofBits .f32 0xFF800000#32 = ⊥ := by
  simp [Ideal.ofBits, Ideal.ieee]

/-- A maximum over four numbers, from the least one up. -/
theorem fold_four (g : Fin 4 → EReal) :
    (Finset.univ : Finset (Fin 4)).fold max ⊥ g = max (max (max (g 0) (g 1)) (g 2)) (g 3) := by
  rw [show (Finset.univ : Finset (Fin 4)) = {0, 1, 2, 3} from by decide]
  simp [max_assoc]

/-- The reference's result at line `n` and place `y`: feature `y / 8`, the largest over the samples of group `y % 8`. -/
theorem pool_apply (f : S128x262144.Idx → EReal) (n : Fin 8192) (y : Fin 1024) :
    (shapeCast S8192x1024 (Host.reduce (FloatOps.maximumf (F := Ideal)) (shapeCast S8192x128x8x4 (transpose S8192x128x32 [1, 0, 2]
      (shapeCast S128x8192x32 f shapeCasts_S128x262144_S128x8192x32) transposes_S128x8192x32_S8192x128x32_1_0_2) shapeCasts_S8192x128x32_S8192x128x8x4)
      (constant (F := Ideal) S_ .f32 0xFF800000#32) reducesTo_S8192x128x8x4_S8192x128x8_d3 h_S_) shapeCasts_S8192x128x8_S8192x1024) (ix2 n y)
    = max (max (max (f (ix2 (⟨y.val / 8, by omega⟩ : Fin 128) (⟨32 * n.val + (4 * (y.val % 8) + 0), by omega⟩ : Fin 262144)))
        (f (ix2 (⟨y.val / 8, by omega⟩ : Fin 128) (⟨32 * n.val + (4 * (y.val % 8) + 1), by omega⟩ : Fin 262144))))
        (f (ix2 (⟨y.val / 8, by omega⟩ : Fin 128) (⟨32 * n.val + (4 * (y.val % 8) + 2), by omega⟩ : Fin 262144))))
        (f (ix2 (⟨y.val / 8, by omega⟩ : Fin 128) (⟨32 * n.val + (4 * (y.val % 8) + 3), by omega⟩ : Fin 262144))) := by
  pointwise
  have e : ∀ (k : Fin 4) (h h'), f (ix2 (⟨y.val / 8, by omega⟩ : Fin 128) (⟨n.val * 32 + (y.val % 8 * 4 + k.val), h⟩ : Fin 262144))
      = f (ix2 (⟨y.val / 8, by omega⟩ : Fin 128) (⟨32 * n.val + (4 * (y.val % 8) + k.val), h'⟩ : Fin 262144)) := by
    intro k h h'
    congr 3
    omega
  refine (congrArg (fun b => Finset.fold max b _ _) ofBits_bot).trans ?_
  refine (fold_four fun k : Fin 4 => f (ix2 (⟨y.val / 8, by omega⟩ : Fin 128) (⟨n.val * 32 + (y.val % 8 * 4 + k.val), by omega⟩ : Fin 262144))).trans ?_
  exact congrArg₂ max (congrArg₂ max (congrArg₂ max (e 0 _ _) (e 1 _ _)) (e 2 _ _)) (e 3 _ _)

/-- The line's coordinates at a sample. -/
theorem coords_apply (W : Vals) (n : Fin 8192) (s : Fin 32) (h : 32 * n.val + s.val < 262144) :
    res_main_v19 W (ix1 ⟨32 * n.val + s.val, h⟩)
        = coord (F := Ideal) (refLines W (ix2 n (0 : Fin 4))) (refLines W (ix2 n (2 : Fin 4))) (refPos s)
      ∧ res_main_v21 W (ix1 ⟨32 * n.val + s.val, h⟩)
        = coord (F := Ideal) (refLines W (ix2 n (1 : Fin 4))) (refLines W (ix2 n (3 : Fin 4))) (refPos s) :=
  ⟨(v19_apply W _).trans (v17_apply W n s 0), (v21_apply W _).trans (v17_apply W n s 1)⟩

/-- Feature `c` of the reference at sample `s` of line `n`, from the two arguments. -/
def refSample (x : S128x128x128.Idx → EReal) (l : S8192x4.Idx → EReal) (n : Fin 8192) (c : Fin 128) (s : Fin 32) : EReal :=
  refTap (cellOf x c) (coord (F := Ideal) (l (ix2 n (0 : Fin 4))) (l (ix2 n (2 : Fin 4))) (refPos s))
    (coord (F := Ideal) (l (ix2 n (1 : Fin 4))) (l (ix2 n (3 : Fin 4))) (refPos s))

/-- The reference's result, from its two arguments. -/
def refOf (x : S128x128x128.Idx → EReal) (l : S8192x4.Idx → EReal) : S8192x1024.Idx → EReal := fun j =>
  let n : Fin 8192 := j 0
  let c : Fin 128 := ⟨(j 1).val / 8, by have := (j 1).isLt; simp at this; omega⟩
  max (max (max (refSample x l n c ⟨4 * ((j 1).val % 8) + 0, by omega⟩) (refSample x l n c ⟨4 * ((j 1).val % 8) + 1, by omega⟩))
    (refSample x l n c ⟨4 * ((j 1).val % 8) + 2, by omega⟩)) (refSample x l n c ⟨4 * ((j 1).val % 8) + 3, by omega⟩)

/-- The reference's composed value is `refOf` of its arguments. -/
theorem refOf_eq (W : Vals) :
    (shapeCast S8192x1024 (Host.reduce (FloatOps.maximumf (F := Ideal)) (shapeCast S8192x128x8x4 (transpose S8192x128x32 [1, 0, 2]
      (shapeCast S128x8192x32 (res_main_v126 W) shapeCasts_S128x262144_S128x8192x32) transposes_S128x8192x32_S8192x128x32_1_0_2) shapeCasts_S8192x128x32_S8192x128x8x4)
      (constant (F := Ideal) S_ .f32 0xFF800000#32) reducesTo_S8192x128x8x4_S8192x128x8_d3 h_S_) shapeCasts_S8192x128x8_S8192x1024)
    = refOf (refMap W) (refLines W) := by
  funext j
  obtain ⟨n, y, rfl⟩ : ∃ (n : Fin 8192) (y : Fin 1024), j = ix2 n y := ⟨j 0, j 1, (ix2_eta j).symm⟩
  refine (pool_apply (res_main_v126 W) n y).trans ?_
  have e : ∀ (c : Fin 128) (s : Fin 32) (h : 32 * n.val + s.val < 262144),
      res_main_v126 W (ix2 c ⟨32 * n.val + s.val, h⟩) = refSample (refMap W) (refLines W) n c s := by
    intro c s h
    rw [v126_apply, (coords_apply W n s h).1, (coords_apply W n s h).2]
    rfl
  exact congrArg₂ max (congrArg₂ max (congrArg₂ max (e _ ⟨4 * (y.val % 8) + 0, by omega⟩ _) (e _ ⟨4 * (y.val % 8) + 1, by omega⟩ _))
    (e _ ⟨4 * (y.val % 8) + 2, by omega⟩ _)) (e _ ⟨4 * (y.val % 8) + 3, by omega⟩ _)

end Cert.Proof.Sample

end
-- ==== Proof.Equation.lean ====
/-
  The kernel's result and the reference's, over the extended reals, are one function of the two arguments.
-/
module

public import proofs.«01_k».proof.Proof.HostOps
public import proofs.«01_k».proof.Proof.RefValue

@[expose] public section

noncomputable section

namespace Cert.Proof.Sample

open Cert.KernelIdeal Cert.KernelIdeal.Gen
open Idealize.ShloMosaic

/-- Row `r` of the table holds the features of grid point `(r / 128, r % 128)`. -/
theorem tabOf_apply (x : S128x128x128.Idx → EReal) (r : Fin 16384) (c : Fin 128) :
    tabOf (F := Ideal) x (ix2 r c) = x (ix3 c (⟨r.val / 128, by omega⟩ : Fin 128) (⟨r.val % 128, by omega⟩ : Fin 128)) := by
  unfold tabOf
  pointwise

/-- Number `i` of line `n` lies at place `4 n + i`. -/
theorem linOf_apply (l : S8192x4.Idx → EReal) (n : Fin 8192) (i : Fin 4) :
    lineNum (linOf (F := Ideal) l) n i = l (ix2 n i) := by
  unfold lineNum linOf
  rw [← ix1_eq_valueIdx]
  pointwise

/-- Feature `c` of group `f` of a row of the call's output is at place `8 c + f` of the result's row. -/
theorem resOf_apply (o : S8192x1024.Idx → EReal) (n : Fin 8192) (y : Fin 1024) :
    resOf (F := Ideal) o (ix2 n y) = o (ix2 n (⟨128 * (y.val % 8) + y.val / 8, by omega⟩ : Fin 1024)) := by
  unfold resOf
  pointwise
  rw [show (⟨y.val % 8 * 128 + y.val / 8, _⟩ : Fin 1024) = ⟨128 * (y.val % 8) + y.val / 8, by omega⟩ from Fin.ext (by simp only; omega)]

/-- Both programs hold one table of sample positions. -/
theorem pos_eq (s : Fin 32) : posOf (F := Ideal) (ValueIdx.ix1 s) = refPos s := by
  rw [← ix1_eq_valueIdx]
  rfl

/-- The table's row at the word of a grid point is the feature map there. -/
theorem tab_cell (x : S128x128x128.Idx → EReal) (c : Fin 128) (b a : BitVec 32) (hb : b.toNat ≤ 127) (ha : a.toNat ≤ 127)
    (h : (rowWord b a).toNat < 16384) :
    tabOf (F := Ideal) x (ValueIdx.ix2 (⟨(rowWord b a).toNat, h⟩ : Fin 16384) c) = cellOf x c b a := by
  rw [← ix2_eq_valueIdx, tabOf_apply, ← cellOf_eq x c b a hb ha]
  have e := toNat_rowWord b a hb ha
  congr 2 <;> refine Fin.ext ?_ <;> simp only [e] <;> omega

/-- The kernel's weight of the lower grid coordinate is the reference's. -/
theorem wLo_eq (p : EReal) : wLo (F := Ideal) p = high p - p := by rw [← sitofp_hi]; rfl
/-- And so is its weight of the upper one. -/
theorem wHi_eq (p : EReal) : wHi (F := Ideal) p = p - low p := by rw [← sitofp_lo]; rfl

variable (x : S128x128x128.Idx → EReal) (l : S8192x4.Idx → EReal) (n : Fin 8192) (c : Fin 128) (s : Fin 32)

/-- The four numbers of line `n`. -/
abbrev lnOf : Fin 4 → EReal := lineNum (linOf (F := Ideal) l) n
/-- The table by row and feature. -/
abbrev tbOf : Fin 16384 → Fin 128 → EReal := fun r c => tabOf (F := Ideal) x (ValueIdx.ix2 r c)
/-- The sample positions by number. -/
abbrev psOf : Fin 32 → EReal := fun s => posOf (F := Ideal) (ValueIdx.ix1 s)

/-- The kernel's sum over the four grid points is the reference's: a product regrouped, two terms exchanged. -/
theorem tap_eq : tap (F := Ideal) (lnOf l n) psOf (tbOf x) s c = refSample x l n c s := by
  have hx : sampX (F := Ideal) (lnOf l n) psOf s = coord (F := Ideal) (l (ix2 n (0 : Fin 4))) (l (ix2 n (2 : Fin 4))) (refPos s) := by
    unfold sampX; rw [show lnOf l n 0 = _ from linOf_apply l n 0, show lnOf l n 2 = _ from linOf_apply l n 2, show psOf s = _ from pos_eq s]
  have hy : sampY (F := Ideal) (lnOf l n) psOf s = coord (F := Ideal) (l (ix2 n (1 : Fin 4))) (l (ix2 n (3 : Fin 4))) (refPos s) := by
    unfold sampY; rw [show lnOf l n 1 = _ from linOf_apply l n 1, show lnOf l n 3 = _ from linOf_apply l n 3, show psOf s = _ from pos_eq s]
  unfold refSample
  rw [← hx, ← hy]
  generalize hp : sampX (F := Ideal) (lnOf l n) psOf s = p
  generalize hq : sampY (F := Ideal) (lnOf l n) psOf s = q
  have t0 : term (F := Ideal) (lnOf l n) psOf (tbOf x) 0 s c
      = cellOf x c (lo (F := Ideal) q) (lo (F := Ideal) p) * ((high q - q) * (high p - p)) := by
    rw [← hp, ← hq, ← wLo_eq, ← wLo_eq, ← tab_cell x c _ _ (lo_le _) (lo_le _) (corner_lt 0 _ _)]; rfl
  have t1 : term (F := Ideal) (lnOf l n) psOf (tbOf x) 1 s c
      = cellOf x c (lo (F := Ideal) q) (hi (F := Ideal) p) * ((high q - q) * (p - low p)) := by
    rw [← hp, ← hq, ← wLo_eq, ← wHi_eq, ← tab_cell x c _ _ (lo_le _) (hi_le _) (corner_lt 1 _ _)]; rfl
  have t2 : term (F := Ideal) (lnOf l n) psOf (tbOf x) 2 s c
      = cellOf x c (hi (F := Ideal) q) (lo (F := Ideal) p) * ((q - low q) * (high p - p)) := by
    rw [← hp, ← hq, ← wHi_eq, ← wLo_eq, ← tab_cell x c _ _ (hi_le _) (lo_le _) (corner_lt 2 _ _)]; rfl
  have t3 : term (F := Ideal) (lnOf l n) psOf (tbOf x) 3 s c
      = cellOf x c (hi (F := Ideal) q) (hi (F := Ideal) p) * ((q - low q) * (p - low p)) := by
    rw [← hp, ← hq, ← wHi_eq, ← wHi_eq, ← tab_cell x c _ _ (hi_le _) (hi_le _) (corner_lt 3 _ _)]; rfl
  show term (F := Ideal) (lnOf l n) psOf (tbOf x) 0 s c + term (F := Ideal) (lnOf l n) psOf (tbOf x) 1 s c
    + term (F := Ideal) (lnOf l n) psOf (tbOf x) 2 s c + term (F := Ideal) (lnOf l n) psOf (tbOf x) 3 s c = _
  rw [t0, t1, t2, t3]
  unfold refTap
  simp only [← mul_assoc]
  rw [add_right_comm (cellOf x c (lo (F := Ideal) q) (lo (F := Ideal) p) * (high q - q) * (high p - p))]

/-- The whole program's result over the extended reals is the reference's. -/
theorem kernelOf_eq : kernelOf (F := Ideal) x l = refOf x l := by
  funext j
  obtain ⟨n, y, rfl⟩ : ∃ (n : Fin 8192) (y : Fin 1024), j = ix2 n y := ⟨j 0, j 1, (ix2_eta j).symm⟩
  unfold kernelOf
  rw [resOf_apply]
  have e : ∀ (f f' : Fin 8) (c c' : Fin 128), f = f' → c = c' →
      pooled (F := Ideal) (lnOf l n) psOf (tbOf x) f c = pooled (F := Ideal) (lnOf l n) psOf (tbOf x) f' c' := by
    rintro f f' c c' rfl rfl; rfl
  refine (e _ (⟨y.val % 8, by omega⟩ : Fin 8) _ (⟨y.val / 8, by omega⟩ : Fin 128) (Fin.ext ?_) (Fin.ext ?_)).trans ?_
  · show (128 * (y.val % 8) + y.val / 8) / 128 = y.val % 8
    omega
  · show (128 * (y.val % 8) + y.val / 8) % 128 = y.val / 8
    omega
  exact congrArg₂ max (congrArg₂ max (congrArg₂ max (tap_eq x l n _ _) (tap_eq x l n _ _)) (tap_eq x l n _ _)) (tap_eq x l n _ _)

end Cert.Proof.Sample

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel at machine floats runs to the end and leaves its two arguments and every counter as they were. -/
theorem frame_kernel : Cert.quiescent_Kernel := fun m ρ _ =>
  (θ_run Cert.KernelIdeal.defs _ _).mono (fun _ h => ⟨fun c => ⟨(h.1 c).1, (h.1 c).2.1⟩, h.2⟩) (Sample.run_main (F := Bits) m ρ)

/-- The kernel over the extended reals runs to the end and leaves its two arguments and every counter as they were. -/
theorem frame_kernelIdeal : Cert.quiescent_KernelIdeal := fun m ρ _ =>
  (θ_run Cert.KernelIdeal.defs _ _).mono (fun _ h => ⟨fun c => ⟨(h.1 c).1, (h.1 c).2.1⟩, h.2⟩) (Sample.run_main (F := Ideal) m ρ)

/-- The reference over the extended reals runs to the end and leaves its two arguments as they were; it has no counter. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- The kernel and the reference over the extended reals, from equal arguments, end with equal results and leave their
    arguments as they were: the shared result is the kernel's function of its two arguments, which is the reference's. -/
theorem algebraic : Cert.algebraic_KernelIdeal_ReferenceIdeal := by
  intro m ρ m' ρ' _ hagree
  refine ⟨fun c => Sample.kernelOf (F := Ideal) (m (Sample.featLoc c)) (m (Sample.lineLoc c)),
    (θ_run Cert.KernelIdeal.defs _ _).mono (fun _ h c => ⟨(h.1 c).2.2, (h.1 c).1, (h.1 c).2.1⟩) (Sample.run_main (F := Ideal) m ρ), ?_⟩
  refine (θ_run Cert.ReferenceIdeal.defs _ _).mono (fun _ h c => ⟨?_, (h c).2⟩) (Cert.ReferenceIdeal.Value.run (F := Ideal) m' ρ')
  refine (h c).1.trans ((Sample.refOf_eq (StableHlo.launchContents m' c)).trans ?_)
  refine Eq.trans ?_ (Sample.kernelOf_eq (m (Sample.featLoc c)) (m (Sample.lineLoc c))).symm
  exact congrArg₂ Sample.refOf (hagree c).1 (hagree c).2

/-- Everything the certificate claims. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
